-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x512 : Shape := ⟨2, ![16384, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  bcast_S_S16384 : S_.BroadcastsInDim S16384 (![] : Fin 0 → Fin S16384.rank)

variable [Facts]

def fn {F : FTy → Type} [FloatOps F] (main_arg0 : FVec F S16384x512 .f32) (main_arg1 : IVec S16384 32) : IVec S16384x512 1 × IVec S16384 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 32 := constantI S_ 32 0#32
  let main_v3 : IVec S16384 32 := broadcastInDim S16384 ![] bcast_S_S16384 main_c
  let main_v4 : IVec S16384 1 := cmpi .sge main_arg1 main_v3
  let main_c_0 : IVec S_ 32 := constantI S_ 32 7#32
  let main_v5 : IVec S16384 32 := broadcastInDim S16384 ![] bcast_S_S16384 main_c_0
  let main_v6 : IVec S16384 1 := cmpi .slt main_arg1 main_v5
  let main_v7 : IVec S16384 1 := andi main_v4 main_v6
  (main_v2, main_v7)
-- ==== Kernel.lean ====
abbrev S16384x512 : Shape := ⟨2, ![16384, 512]⟩
abbrev S16384 : Shape := ⟨1, ![16384]⟩
abbrev S4x1x4096 : Shape := ⟨3, ![4, 1, 4096]⟩
abbrev S1x1x4096 : Shape := ⟨3, ![1, 1, 4096]⟩
abbrev S4096x512 : Shape := ⟨2, ![4096, 512]⟩
abbrev S2048x512 : Shape := ⟨2, ![2048, 512]⟩
abbrev S8x512 : Shape := ⟨2, ![8, 512]⟩
abbrev S8x1 : Shape := ⟨2, ![8, 1]⟩
abbrev S1x4096 : Shape := ⟨2, ![1, 4096]⟩
abbrev S8x4096 : Shape := ⟨2, ![8, 4096]⟩
abbrev S8 : Shape := ⟨1, ![8]⟩
abbrev S8x2048 : Shape := ⟨2, ![8, 2048]⟩
abbrev S4x2048 : Shape := ⟨2, ![4, 2048]⟩
abbrev S2x2048 : Shape := ⟨2, ![2, 2048]⟩
abbrev S1x2048 : Shape := ⟨2, ![1, 2048]⟩

abbrev nBuf : Space → Nat
  | .hbm => 4
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S4x1x4096, .i32⟩
  | .hbm, ⟨3, _⟩ => ⟨S16384x512, .f32⟩
  | .local _ .vmem, ⟨0, _⟩ => ⟨S1x1x4096, .i32⟩
  | .local _ .vmem, ⟨1, _⟩ => ⟨S1x1x4096, .i32⟩
  | .local _ .vmem, ⟨2, _⟩ => ⟨S4096x512, .f32⟩
  | .local _ .vmem, ⟨3, _⟩ => ⟨S4096x512, .f32⟩
  | .local _ .vmem, ⟨4, _⟩ => ⟨S2048x512, .f32⟩
  | .local _ .vmem, ⟨5, _⟩ => ⟨S2048x512, .f32⟩
  | .local _ .vmem, ⟨6, _⟩ => ⟨S16384x512, .f32⟩
  | .local _ .vmem, ⟨7, _⟩ => ⟨S8x512, .f32⟩
  | .local _ .vmem, ⟨8, _⟩ => ⟨S8x512, .f32⟩
  | .local _ .vmem, ⟨9, _⟩ => ⟨S8x1, .f32⟩
  | .local _ .vmem, ⟨10, _⟩ => ⟨S8x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c4096_i32 : BitVec 32 := 4096#32
  let v7 : BitVec 32 := Scalar.muli arg0 c4096_i32
  let v8 : Index := Scalar.indexCast v7
  let c0_3 : Index := 0#32
  ![v8.toNat, 0]
def k0_cond5 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg0 : BitVec 32 := BitVec.ofNat 32 (i 0).val
  let c4_i32_2 : BitVec 32 := 4#32
  let v6 : BitVec 32 := Scalar.subi arg0 c4_i32_2
  let c2048_i32 : BitVec 32 := 2048#32
  let v7 : BitVec 32 := Scalar.muli v6 c2048_i32
  let v8 : Index := Scalar.indexCast v7
  let c0 : Index := 0#32
  ![v8.toNat, 0]
def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S16384 : Shape := ⟨1, ![16384]⟩
abbrev S_ : Shape := ⟨0, ![]⟩
abbrev S7 : Shape := ⟨1, ![7]⟩
abbrev S16384x1 : Shape := ⟨2, ![16384, 1]⟩
abbrev S7x512 : Shape := ⟨2, ![7, 512]⟩
abbrev S7x1 : Shape := ⟨2, ![7, 1]⟩
abbrev S1x7 : Shape := ⟨2, ![1, 7]⟩
abbrev S16384x7 : Shape := ⟨2, ![16384, 7]⟩
abbrev S512x7 : Shape := ⟨2, ![512, 7]⟩
abbrev S1 : Shape := ⟨1, ![1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S7, .f32⟩
  | .hbm, ⟨6, _⟩ => ⟨S16384x1, .i32⟩
  | .hbm, ⟨7, _⟩ => ⟨S7, .f32⟩
  | .hbm, ⟨8, _⟩ => ⟨S_, .f32⟩
  | .hbm, ⟨9, _⟩ => ⟨S7x512, .f32⟩
  | .hbm, ⟨10, _⟩ => ⟨S16384x1, .i32⟩
  | .hbm, ⟨11, _⟩ => ⟨S7x512, .f32⟩
  | .hbm, ⟨12, _⟩ => ⟨S_, .f32⟩
  | .hbm, ⟨13, _⟩ => ⟨S7, .f32⟩
  | .hbm, ⟨14, _⟩ => ⟨S7, .i1⟩
  | .hbm, ⟨15, _⟩ => ⟨S_, .f32⟩
  | .hbm, ⟨16, _⟩ => ⟨S_, .f32⟩
  | .hbm, ⟨17, _⟩ => ⟨S7, .f32⟩
  | .hbm, ⟨18, _⟩ => ⟨S7, .f32⟩
  | .hbm, ⟨19, _⟩ => ⟨S7x1, .f32⟩
  | .hbm, ⟨20, _⟩ => ⟨S7x512, .f32⟩
  | .hbm, ⟨21, _⟩ => ⟨S7x512, .f32⟩
  | .hbm, ⟨22, _⟩ => ⟨S7x1, .i1⟩
  | .hbm, ⟨23, _⟩ => ⟨S_, .f32⟩
  | .hbm, ⟨24, _⟩ => ⟨S_, .f32⟩
  | .hbm, ⟨25, _⟩ => ⟨S7x512, .i1⟩
  | .hbm, ⟨26, _⟩ => ⟨S7x512, .f32⟩
  | .hbm, ⟨27, _⟩ => ⟨S7x512, .f32⟩
  | .hbm, ⟨28, _⟩ => ⟨S_, .f32⟩
  | .hbm, ⟨29, _⟩ => ⟨S_, .f32⟩
  | .hbm, ⟨30, _⟩ => ⟨S16384x512, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S7x512, .f32⟩
  | .hbm, ⟨35, _⟩ => ⟨S_, .f32⟩
  | .hbm, ⟨36, _⟩ => ⟨S7, .f32⟩
  | .hbm, ⟨37, _⟩ => ⟨S1x7, .f32⟩
  | .hbm, ⟨38, _⟩ => ⟨S16384x7, .f32⟩
  | .hbm, ⟨39, _⟩ => ⟨S16384x7, .f32⟩
  | .hbm, ⟨40, _⟩ => ⟨S16384x7, .f32⟩
  | .hbm, ⟨41, _⟩ => ⟨S512x7, .f32⟩
  | .hbm, ⟨42, _⟩ => ⟨S16384x7, .f32⟩
  | .hbm, ⟨43, _⟩ => ⟨S_, .f32⟩
  | .hbm, ⟨44, _⟩ => ⟨S16384x7, .f32⟩
  | .hbm, ⟨45, _⟩ => ⟨S16384x7, .f32⟩
  | .hbm, ⟨46, _⟩ => ⟨S16384x7, .f32⟩
  | .hbm, ⟨47, _⟩ => ⟨S_, .f32⟩
  | .hbm, ⟨48, _⟩ => ⟨S_, .f32⟩
  | .hbm, ⟨49, _⟩ => ⟨S16384x7, .f32⟩
  | .hbm, ⟨50, _⟩ => ⟨S16384x7, .f32⟩
  | .hbm, ⟨51, _⟩ => ⟨S16384x7, .f32⟩
  | .hbm, ⟨52, _⟩ => ⟨S1x7, .i1⟩
  | .hbm, ⟨53, _⟩ => ⟨S_, .f32⟩
  | .hbm, ⟨54, _⟩ => ⟨S_, .f32⟩
  | .hbm, ⟨55, _⟩ => ⟨S16384x7, .i1⟩
  | .hbm, ⟨56, _⟩ => ⟨S16384x7, .f32⟩
  | .hbm, ⟨57, _⟩ => ⟨S16384x7, .f32⟩
  | .hbm, ⟨58, _⟩ => ⟨S16384x7, .i32⟩
  | .hbm, ⟨59, _⟩ => ⟨S_, .f32⟩
  | .hbm, ⟨60, _⟩ => ⟨S_, .i32⟩
  | .hbm, ⟨61, _⟩ => ⟨S16384, .f32⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S16384x1, .i32⟩
  | .hbm, ⟨71, _⟩ => ⟨S1, .i32⟩
  | .hbm, ⟨72, _⟩ => ⟨S_, .i32⟩
  | .hbm, ⟨73, _⟩ => ⟨S16384x1, .i32⟩
  | .hbm, ⟨74, _⟩ => ⟨S16384x1, .i1⟩
  | .hbm, ⟨75, _⟩ => ⟨S1x1, .i32⟩
  | .hbm, ⟨76, _⟩ => ⟨S16384x1, .i32⟩
  | .hbm, ⟨77, _⟩ => ⟨S16384x1, .i1⟩
  | .hbm, ⟨78, _⟩ => ⟨S16384x1, .i1⟩
  | .hbm, ⟨79, _⟩ => ⟨S_, .i1⟩
  | .hbm, ⟨80, _⟩ => ⟨S16384, .i1⟩
  | .hbm, ⟨81, _⟩ => ⟨S16384x512, .f32⟩
  | .hbm, ⟨82, _⟩ => ⟨S16384x512, .i1⟩
  | .hbm, ⟨83, _⟩ => ⟨S_, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S_, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S_, .f32⟩
  | .hbm, ⟨92, _⟩ => ⟨S_, .i1⟩
  | .hbm, ⟨93, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v33 : Ref sig .tc := ⟨.hbm, 57, rfl⟩
abbrev main_call4_v0 : Ref sig .tc := ⟨.hbm, 58, rfl⟩
abbrev main_call4_cst : Ref sig .tc := ⟨.hbm, 59, rfl⟩
abbrev main_call4_c : Ref sig .tc := ⟨.hbm, 60, rfl⟩
abbrev main_call4_v1_0 : Ref sig .tc := ⟨.hbm, 61, rfl⟩
abbrev main_v34 : Ref sig .tc := ⟨.hbm, 62, rfl⟩
abbrev main_call5_c : Ref sig .tc := ⟨.hbm, 63, rfl⟩
abbrev main_call5_v0 : Ref sig .tc := ⟨.hbm, 64, rfl⟩
abbrev main_call5_v1 : Ref sig .tc := ⟨.hbm, 65, rfl⟩
abbrev main_call5_c_0 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_v5 : Ref sig .tc := ⟨.hbm, 70, rfl⟩
abbrev main_call5_c_1 : Ref sig .tc := ⟨.hbm, 71, rfl⟩
abbrev main_call5_c_2 : Ref sig .tc := ⟨.hbm, 72, rfl⟩
abbrev main_call5_v6 : Ref sig .tc := ⟨.hbm, 73, rfl⟩
abbrev main_call5_v7 : Ref sig .tc := ⟨.hbm, 74, rfl⟩
abbrev main_call5_v8 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_c_3 : Ref sig .tc := ⟨.hbm, 79, rfl⟩
abbrev main_call5_v12 : Ref sig .tc := ⟨.hbm, 80, rfl⟩
abbrev main_call5_v13 : Ref sig .tc := ⟨.hbm, 81, rfl⟩
abbrev main_call5_v14 : Ref sig .tc := ⟨.hbm, 82, rfl⟩
abbrev main_call5_cst : Ref sig .tc := ⟨.hbm, 83, rfl⟩
abbrev main_call5_v15 : Ref sig .tc := ⟨.hbm, 84, rfl⟩
abbrev main_v35 : Ref sig .tc := ⟨.hbm, 85, rfl⟩
abbrev main_v36 : Ref sig .tc := ⟨.hbm, 86, rfl⟩
abbrev main_cst_11 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_12 : Ref sig .tc := ⟨.hbm, 91, rfl⟩
abbrev main_v40 : Ref sig .tc := ⟨.hbm, 92, rfl⟩
abbrev main_v41 : Ref sig .tc := ⟨.hbm, 93, rfl⟩

abbrev nD : Nat := 1
abbrev τ : Topo := Topo.v7x

variable {F : FTy → Type} [FloatOps F]
-- ==== Proof.Body.lean ====
/-
The kernel body, run at one grid point.

The body keeps five scratch buffers: the copied rows, the sums (later the centroids), the scaled
centroids, the masked squared norms and the counts.  `St` names their contents together, and the
four theorems below say what the body makes of them in each of its four cases.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The contents of the five scratch buffers. -/
structure St (F : FTy → Type) where
  /-- the rows copied so far -/
  xb : Vec F S16384x512 .f32
  /-- the sums of the domains' rows, at the end of the first phase their centroids -/
  ps : Vec F S8x512 .f32
  /-- the centroids times 0.3 -/
  c3 : Vec F S8x512 .f32
  /-- the centroids' squared norms, minus infinity at a domain without rows -/
  b2 : Vec F S8x1 .f32
  /-- the number of rows of each domain -/
  cn : Vec F S8x1 .f32

/-- The body's `scf.if` conditions, from the grid coordinates. -/
abbrev cond0 (i : grid0.Coords) : Prop := k0_cond1 i = 1#1
abbrev cond1 (i : grid0.Coords) : Prop :=
  (Scalar.cmpi .ne (Scalar.extui (Scalar.cmpi .eq (BitVec.ofNat 32 (i 0).val) 0#32)) 0#32) = 1#1
abbrev cond2 (i : grid0.Coords) : Prop :=
  (Scalar.cmpi .ne (Scalar.extui (Scalar.cmpi .sgt (BitVec.ofNat 32 (i 0).val) 0#32)) 0#32) = 1#1
abbrev cond3 (i : grid0.Coords) : Prop :=
  (Scalar.cmpi .ne (Scalar.extui (Scalar.cmpi .eq (BitVec.ofNat 32 (i 0).val) 3#32)) 0#32) = 1#1
abbrev cond4 (i : grid0.Coords) : Prop := k0_cond5 i = 1#1

/-- The rows buffer with one block of rows put at the point's offset. -/
def copied (i : grid0.Coords) (xb : Vec F S16384x512 .f32) (x1 : Vec F S4096x512 .f32) : Vec F S16384x512 .f32 :=
  VecWindow.put (s := S16384x512) xb (k0_off1 i) S4096x512.size x1

/-- The first point: the block copied, the sums and counts started. -/
def stepA (i : grid0.Coords) (x0 : Vec F S1x1x4096 .i32) (x1 : Vec F S4096x512 .f32) (s : St F) : St F :=
  { s with xb := copied i s.xb x1, ps := k0_pay5 x1 x0, cn := k0_pay6 x0 }

/-- A further point of the first phase: the block copied, its sums and counts added. -/
def stepB (i : grid0.Coords) (x0 : Vec F S1x1x4096 .i32) (x1 : Vec F S4096x512 .f32) (s : St F) : St F :=
  { s with xb := copied i s.xb x1, ps := k0_pay7 x1 x0 s.ps, cn := k0_pay8 x0 s.cn }

/-- The end of the first phase: sums and counts turned into centroids and squared norms. -/
def finish (s : St F) : St F :=
  { s with ps := k0_pay10 s.cn s.ps, c3 := k0_pay11 s.cn s.ps, b2 := k0_pay12 s.cn s.ps }

/-- A load of a whole buffer reads its contents. -/
theorem readAll {sp : Space} {sh : Shape} {e : EltTy} (a : Memref sig .tc sp sh e) {d : sh.Idx → Elt F e}
    {f : a.view.ty.Contents (Elt F)} (h : a.view.read (Elt F) f = d) {off : Fin sh.rank → ℕ} (inb : ∀ x, off x + sh.size x ≤ sh.size x) :
    a.view.readAt (Elt F) (Rect.unit off sh.size inb).toLoadRect f = d :=
  (View.readAt_full a.view f inb).trans h

theorem pay1_eq (v : Vec F S4096x512 .f32) : k0_pay1 v = v := shapeCast_self _ _

section
variable (c : Dev nD) (i : grid0.Coords)
  (arg1 : Memref sig .tc .vmem S1x1x4096 .i32) (harg1 : arg1.IsWhole) (arg2 : Memref sig .tc .vmem S4096x512 .f32) (harg2 : arg2.IsWhole)
  (arg3 : Memref sig .tc .vmem S2048x512 .f32) (harg3 : arg3.IsWhole) (arg4 : Memref sig .tc .vmem S16384x512 .f32) (harg4 : arg4.IsWhole)
  (arg5 : Memref sig .tc .vmem S8x512 .f32) (harg5 : arg5.IsWhole) (arg6 : Memref sig .tc .vmem S8x512 .f32) (harg6 : arg6.IsWhole)
  (arg7 : Memref sig .tc .vmem S8x1 .f32) (harg7 : arg7.IsWhole) (arg8 : Memref sig .tc .vmem S8x1 .f32) (harg8 : arg8.IsWhole)

/-- The eight buffers the body works on, with their contents. -/
def holds (x0 : Vec F S1x1x4096 .i32) (x1 : Vec F S4096x512 .f32) (o : Vec F S2048x512 .f32) (s : St F) : sProp 𝕄 :=
  iprop(owns (c : Thread nD τ) arg1 fullShare x0 ∗ owns (c : Thread nD τ) arg2 fullShare x1 ∗ owns (c : Thread nD τ) arg3 fullShare o
    ∗ owns (c : Thread nD τ) arg4 fullShare s.xb ∗ owns (c : Thread nD τ) arg5 fullShare s.ps ∗ owns (c : Thread nD τ) arg6 fullShare s.c3
    ∗ owns (c : Thread nD τ) arg7 fullShare s.b2 ∗ owns (c : Thread nD τ) arg8 fullShare s.cn)

/-- The body run from contents `s` to contents `s'` and from output block `o` to `o'`. -/
def Runs (x0 : Vec F S1x1x4096 .i32) (x1 : Vec F S4096x512 .f32) (o o' : Vec F S2048x512 .f32) (s s' : St F) : Prop :=
  ∀ (E : Set ℕ) (K : PUnit → sProp 𝕄),
    iprop(holds c arg1 arg2 arg3 arg4 arg5 arg6 arg7 arg8 x0 x1 o s
        ∗ (holds c arg1 arg2 arg3 arg4 arg5 arg6 arg7 arg8 x0 x1 o' s' -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K

set_option maxHeartbeats 1000000 in
/-- The body at the first point. -/
theorem runA (hc0 : cond0 i) (hc1 : cond1 i) (hc2 : ¬cond2 i) (hc3 : ¬cond3 i) (hc4 : ¬cond4 i)
    (x0 : Vec F S1x1x4096 .i32) (x1 : Vec F S4096x512 .f32) (o : Vec F S2048x512 .f32) (s : St F) :
    Runs c i arg1 harg1 arg2 harg2 arg3 harg3 arg4 harg4 arg5 harg5 arg6 harg6 arg7 harg7 arg8 harg8 x0 x1 o o s (stepA i x0 x1 s) := by
  intro E K
  simp only [cc0__fused_kernel_eq_skeleton]; unfold cc0__fused_kernel_skel
  unfold holds owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec (disch := first | sl_exact hc0 | sl_exact hc1 | sl_exact hc2 | sl_exact hc3 | sl_exact hc4)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; rw [View.read_writes_cons_put _ _ _ _ _ rfl, View.writes_nil, hf4, readAll arg2 hf2, pay1_eq]; rfl
  isplitl [H5]
  · iexists _; isplitr; swap; · iexact H5
    ipureintro; rw [View.read_writes_full, readAll arg2 hf2, readAll arg1 hf1]; rfl
  isplitl [H6]
  · iexists _; isplitr; swap; · iexact H6
    ipureintro; exact hf6
  isplitl [H7]
  · iexists _; isplitr; swap; · iexact H7
    ipureintro; exact hf7
  iexists _; isplitr; swap; · iexact H8
  ipureintro; rw [View.read_writes_full, readAll arg1 hf1]; rfl

set_option maxHeartbeats 1000000 in
/-- The body at a further point of the first phase. -/
theorem runB (hc0 : cond0 i) (hc1 : ¬cond1 i) (hc2 : cond2 i) (hc3 : ¬cond3 i) (hc4 : ¬cond4 i)
    (x0 : Vec F S1x1x4096 .i32) (x1 : Vec F S4096x512 .f32) (o : Vec F S2048x512 .f32) (s : St F) :
    Runs c i arg1 harg1 arg2 harg2 arg3 harg3 arg4 harg4 arg5 harg5 arg6 harg6 arg7 harg7 arg8 harg8 x0 x1 o o s (stepB i x0 x1 s) := by
  intro E K
  simp only [cc0__fused_kernel_eq_skeleton]; unfold cc0__fused_kernel_skel
  unfold holds owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec (disch := first | sl_exact hc0 | sl_exact hc1 | sl_exact hc2 | sl_exact hc3 | sl_exact hc4)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; rw [View.read_writes_cons_put _ _ _ _ _ rfl, View.writes_nil, hf4, readAll arg2 hf2, pay1_eq]; rfl
  isplitl [H5]
  · iexists _; isplitr; swap; · iexact H5
    ipureintro; rw [View.read_writes_full, readAll arg2 hf2, readAll arg1 hf1, readAll arg5 hf5]; rfl
  isplitl [H6]
  · iexists _; isplitr; swap; · iexact H6
    ipureintro; exact hf6
  isplitl [H7]
  · iexists _; isplitr; swap; · iexact H7
    ipureintro; exact hf7
  iexists _; isplitr; swap; · iexact H8
  ipureintro; rw [View.read_writes_full, readAll arg1 hf1, readAll arg8 hf8]; rfl

set_option maxHeartbeats 1000000 in
/-- The body at the last point of the first phase. -/
theorem runC (hc0 : cond0 i) (hc1 : ¬cond1 i) (hc2 : cond2 i) (hc3 : cond3 i) (hc4 : ¬cond4 i)
    (x0 : Vec F S1x1x4096 .i32) (x1 : Vec F S4096x512 .f32) (o : Vec F S2048x512 .f32) (s : St F) :
    Runs c i arg1 harg1 arg2 harg2 arg3 harg3 arg4 harg4 arg5 harg5 arg6 harg6 arg7 harg7 arg8 harg8 x0 x1 o o s (finish (stepB i x0 x1 s)) := by
  intro E K
  simp only [cc0__fused_kernel_eq_skeleton]; unfold cc0__fused_kernel_skel
  unfold holds owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec (disch := first | sl_exact hc0 | sl_exact hc1 | sl_exact hc2 | sl_exact hc3 | sl_exact hc4)
  sl_step
  unfold runC.sl.v32 runC.sl.v35 runC.sl.H8_1 runC.sl.H5_1
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; rw [View.read_writes_cons_put _ _ _ _ _ rfl, View.writes_nil, hf4, readAll arg2 hf2, pay1_eq]; rfl
  isplitl [H5]
  · iexists _; isplitr; swap; · iexact H5
    ipureintro; rw [View.read_writes_full, View.readCov_full, View.readCov_full, readAll arg2 hf2, readAll arg1 hf1, readAll arg5 hf5, readAll arg8 hf8]; rfl
  isplitl [H6]
  · iexists _; isplitr; swap; · iexact H6
    ipureintro; rw [View.read_writes_full, View.readCov_full, View.readCov_full, readAll arg2 hf2, readAll arg1 hf1, readAll arg5 hf5, readAll arg8 hf8]; rfl
  isplitl [H7]
  · iexists _; isplitr; swap; · iexact H7
    ipureintro; rw [View.read_writes_full, View.readCov_full, View.readCov_full, readAll arg2 hf2, readAll arg1 hf1, readAll arg5 hf5, readAll arg8 hf8]; rfl
  iexists _; isplitr; swap; · iexact H8
  ipureintro; rw [View.read_writes_full, readAll arg1 hf1, readAll arg8 hf8]; rfl

set_option maxHeartbeats 1000000 in
/-- The body at a point of the second phase. -/
theorem runD (hc0 : ¬cond0 i) (hc4 : cond4 i)
    (x0 : Vec F S1x1x4096 .i32) (x1 : Vec F S4096x512 .f32) (o : Vec F S2048x512 .f32) (s : St F) :
    Runs c i arg1 harg1 arg2 harg2 arg3 harg3 arg4 harg4 arg5 harg5 arg6 harg6 arg7 harg7 arg8 harg8 x0 x1 o (k0_pay13 (VecWindow.window (s := S16384x512) s.xb (k0_off2 i) S2048x512.size (k0_off2_inb i hc4)) s.ps s.b2 s.c3) s s := by
  intro E K
  simp only [cc0__fused_kernel_eq_skeleton]; unfold cc0__fused_kernel_skel
  simp only [k0_part1_eq_skeleton]; unfold k0_part1_skel
  unfold holds owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec (disch := first | sl_exact hc0 | sl_exact hc4)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; rw [View.read_writes_full, View.readAt_unit arg4.view f4 _ rfl (k0_off2_inb i hc4), hf4, readAll arg5 hf5, readAll arg6 hf6, readAll arg7 hf7]
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  iexists _; isplitr; swap; · iexact H8
  ipureintro; exact hf8

end

end Cert.KernelIdeal.Hand

end
-- ==== Proof.Data.lean ====
/-
What the kernel's buffers hold before and after each grid point.

Points 0..3 each take one block of 4096 rows; points 4..11 each write one block of 2048 rows of
the result.  `Inv` says what is known of the scratch buffers after a number of points, and the four
lemmas `inv_*` say that the body's steps keep it.
-/
module

public import proofs.«01_k».proof.Proof.Gen.KernelIdeal.Frame
public import proofs.«01_k».proof.Proof.Body
public import Idealize.ShloMosaic.Lib.ValueIdx

@[expose] public section

set_option maxRecDepth 16384

noncomputable section

namespace Cert.KernelIdeal.Hand

open Idealize.ShloMosaic Idealize.ShloMosaic.TcCoe Idealize.ShloMosaic.Tactic Idealize.ShloMosaic.ValueIdx
open Cert.KernelIdeal.Gen

variable {F : FTy → Type} [FloatOps F] [Named F]

variable (m : (ℓ : Loc nD τ sig) → Buf (Elt F) ℓ)

theorem N_eq : cfg0.N = 12 := N_0

/-- The grid point of a position (positions past the grid wrap around). -/
def pt (n : ℕ) : Fin cfg0.N := ⟨n % 12, by have := N_eq; omega⟩

theorem pt_val (t : Fin cfg0.N) : pt t.val = t := Fin.ext (Nat.mod_eq_of_lt (t.isLt.trans_eq N_eq))

/-- The conditions of the body in closed form. -/
theorem hcond0 : ∀ t : Fin cfg0.N, cond0 (grid0.coords t) ↔ t.val < 4 :=
  (by decide +kernel : ∀ t : Fin grid0.N, cond0 (grid0.coords t) ↔ t.val < 4)
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ 1 ≤ t.val :=
  (by decide +kernel : ∀ t : Fin grid0.N, cond2 (grid0.coords t) ↔ 1 ≤ t.val)
theorem hcond3 : ∀ t : Fin cfg0.N, cond3 (grid0.coords t) ↔ t.val = 3 :=
  (by decide +kernel : ∀ t : Fin grid0.N, cond3 (grid0.coords t) ↔ t.val = 3)
theorem hcond4 : ∀ t : Fin cfg0.N, cond4 (grid0.coords t) ↔ 4 ≤ t.val :=
  (by decide +kernel : ∀ t : Fin grid0.N, cond4 (grid0.coords t) ↔ 4 ≤ t.val)

/-- Where the rows of a point of the first phase go, and where those of the second come from. -/
theorem off1_eq : ∀ t : Fin cfg0.N, t.val < 4 → k0_off1 (grid0.coords t) 0 = 4096 * t.val ∧ k0_off1 (grid0.coords t) 1 = 0 :=
  (by decide +kernel : ∀ t : Fin grid0.N, t.val < 4 → k0_off1 (grid0.coords t) 0 = 4096 * t.val ∧ k0_off1 (grid0.coords t) 1 = 0)
theorem off2_eq : ∀ t : Fin cfg0.N, 4 ≤ t.val → k0_off2 (grid0.coords t) 0 = 2048 * (t.val - 4) ∧ k0_off2 (grid0.coords t) 1 = 0 :=
  (by decide +kernel : ∀ t : Fin grid0.N, 4 ≤ t.val → k0_off2 (grid0.coords t) 0 = 2048 * (t.val - 4) ∧ k0_off2 (grid0.coords t) 1 = 0)

section
variable (c : Dev nD)

/-- The block of domains and the block of rows that position `n` reads. -/
def bd (n : ℕ) : Vec F S1x1x4096 .i32 := iblk m c 0 (pt n)
def bx (n : ℕ) : Vec F S4096x512 .f32 := iblk m c 1 (pt n)

/-- All the rows, block by block. -/
def rows : Vec F S16384x512 .f32 := fun y => bx m c ((y 0).val / 4096) (ix2 ⟨(y 0).val % 4096, Nat.mod_lt _ (by decide)⟩ (y 1))

/-- The sums and the counts after position `n` of the first phase. -/
def sums : ℕ → Vec F S8x512 .f32
  | 0 => k0_pay5 (bx m c 0) (bd m c 0)
  | n + 1 => k0_pay7 (bx m c (n + 1)) (bd m c (n + 1)) (sums n)
def cnts : ℕ → Vec F S8x1 .f32
  | 0 => k0_pay6 (bd m c 0)
  | n + 1 => k0_pay8 (bd m c (n + 1)) (cnts n)

/-- The centroids, the centroids times 0.3, and the masked squared norms. -/
def cent : Vec F S8x512 .f32 := k0_pay10 (cnts m c 3) (sums m c 3)
def cent3 : Vec F S8x512 .f32 := k0_pay11 (cnts m c 3) (sums m c 3)
def norm2 : Vec F S8x1 .f32 := k0_pay12 (cnts m c 3) (sums m c 3)

/-- The rows that position `n` of the second phase works on, and the block of the result it leaves. -/
def outRows (n : ℕ) : Vec F S2048x512 .f32 := fun y => rows m c (ix2 ⟨(2048 * (n - 4) + (y 0).val) % 16384, Nat.mod_lt _ (by decide)⟩ (y 1))
def outBlk (n : ℕ) : Vec F S2048x512 .f32 := k0_pay13 (outRows m c n) (cent m c) (norm2 m c) (cent3 m c)

/-- What is known of the scratch buffers after `n` points. -/
structure Inv (n : ℕ) (s : St F) : Prop where
  hx : ∀ y : S16384x512.Idx, (y 0).val < 4096 * n → s.xb y = rows m c y
  hs : 1 ≤ n → n ≤ 3 → s.ps = sums m c (n - 1) ∧ s.cn = cnts m c (n - 1)
  hf : 4 ≤ n → s.ps = cent m c ∧ s.c3 = cent3 m c ∧ s.b2 = norm2 m c

theorem inv_zero (s : St F) : Inv m c 0 s :=
  ⟨fun y h => by omega, fun h => by omega, fun h => by omega⟩

/-- Copying block `t` extends the copied rows by 4096. -/
theorem copied_rows (t : Fin cfg0.N) (ht : t.val < 4) (xb : Vec F S16384x512 .f32)
    (h : ∀ y : S16384x512.Idx, (y 0).val < 4096 * t.val → xb y = rows m c y) (y : S16384x512.Idx)
    (hy : (y 0).val < 4096 * (t.val + 1)) : copied (grid0.coords t) xb (bx m c t.val) y = rows m c y := by
  obtain ⟨e0, e1⟩ := off1_eq t ht
  unfold copied VecWindow.put
  split
  · rename_i hin
    have h0 := hin 0
    rw [e0] at h0
    have hdiv : (y 0).val / 4096 = t.val := by
      have : (y 0).val < 4096 * t.val + 4096 := h0.2
      omega
    unfold rows
    rw [hdiv]
    refine congrArg _ (funext fun a => Fin.ext ?_)
    match a with
    | 0 => show (y 0).val - k0_off1 (grid0.coords t) 0 = (y 0).val % 4096; rw [e0]; omega
    | 1 => show (y 1).val - k0_off1 (grid0.coords t) 1 = (y 1).val; rw [e1]; omega
  · rename_i hout
    refine h y ?_
    by_contra hlt
    refine hout fun a => ?_
    match a with
    | 0 => exact ⟨by rw [e0]; omega, by rw [e0]; show (y 0).val < 4096 * t.val + 4096; omega⟩
    | 1 => exact ⟨by rw [e1]; omega, by rw [e1]; show (y 1).val < 0 + 512; have : (y 1).val < 512 := (y 1).isLt; omega⟩

theorem inv_A (t : Fin cfg0.N) (ht : t.val = 0) (s : St F) (h : Inv m c t.val s) :
    Inv m c (t.val + 1) (stepA (grid0.coords t) (bd m c t.val) (bx m c t.val) s) where
  hx := copied_rows m c t (by omega) s.xb h.hx
  hs _ _ := by rw [ht]; exact ⟨rfl, rfl⟩
  hf h4 := by omega

theorem step_sums (t : Fin cfg0.N) (ht : 1 ≤ t.val) (ht' : t.val ≤ 3) (s : St F) (h : Inv m c t.val s) :
    (stepB (grid0.coords t) (bd m c t.val) (bx m c t.val) s).ps = sums m c t.val
      ∧ (stepB (grid0.coords t) (bd m c t.val) (bx m c t.val) s).cn = cnts m c t.val := by
  obtain ⟨e1, e2⟩ := h.hs ht ht'
  obtain ⟨n, hn⟩ : ∃ n, t.val = n + 1 := ⟨t.val - 1, by omega⟩
  constructor
  · show k0_pay7 _ _ s.ps = _
    rw [e1, hn]; rfl
  · show k0_pay8 _ s.cn = _
    rw [e2, hn]; rfl

theorem inv_B (t : Fin cfg0.N) (ht : 1 ≤ t.val) (ht' : t.val < 3) (s : St F) (h : Inv m c t.val s) :
    Inv m c (t.val + 1) (stepB (grid0.coords t) (bd m c t.val) (bx m c t.val) s) where
  hx := copied_rows m c t (by omega) s.xb h.hx
  hs _ _ := step_sums m c t ht (by omega) s h
  hf h4 := by omega

theorem inv_C (t : Fin cfg0.N) (ht : t.val = 3) (s : St F) (h : Inv m c t.val s) :
    Inv m c (t.val + 1) (finish (stepB (grid0.coords t) (bd m c t.val) (bx m c t.val) s)) where
  hx := copied_rows m c t (by omega) s.xb h.hx
  hs _ h3 := by omega
  hf _ := by
    obtain ⟨e1, e2⟩ := step_sums m c t (by omega) (by omega) s h
    unfold finish
    rw [e1, e2, ht]
    exact ⟨rfl, rfl, rfl⟩

theorem inv_D (t : Fin cfg0.N) (ht : 4 ≤ t.val) (s : St F) (h : Inv m c t.val s) : Inv m c (t.val + 1) s where
  hx y hy := h.hx y (by have : (y 0).val < 16384 := (y 0).isLt; omega)
  hs _ h3 := by omega
  hf _ := h.hf ht

/-- The block the body writes at a point of the second phase. -/
theorem out_D (t : Fin cfg0.N) (ht : 4 ≤ t.val) (s : St F) (h : Inv m c t.val s) (hc : cond4 (grid0.coords t)) :
    k0_pay13 (VecWindow.window (s := S16384x512) s.xb (k0_off2 (grid0.coords t)) S2048x512.size (k0_off2_inb (grid0.coords t) hc)) s.ps s.b2 s.c3
      = outBlk m c t.val := by
  obtain ⟨e1, e2, e3⟩ := h.hf ht
  have hN : t.val < 12 := t.isLt.trans_eq N_eq
  obtain ⟨o0, o1⟩ := off2_eq t ht
  rw [e1, e2, e3]
  unfold outBlk
  congr 1
  funext y
  unfold VecWindow.window
  have hy : (y 0).val < 2048 := (y 0).isLt
  rw [h.hx _ (lt_of_lt_of_le (Fin.isLt _) (by show 16384 ≤ _; omega))]
  unfold outRows
  refine congrArg _ (funext fun a => Fin.ext ?_)
  match a with
  | 0 =>
    show k0_off2 (grid0.coords t) 0 + 1 * (y 0).val = (2048 * (t.val - 4) + (y 0).val) % 16384
    rw [o0]; omega
  | 1 =>
    show k0_off2 (grid0.coords t) 1 + 1 * (y 1).val = (y 1).val
    rw [o1]; omega
end

end Cert.KernelIdeal.Hand

end
-- ==== Proof.Run.lean ====
/-
The whole run of the kernel: the body obligation at every grid point, the launch, and the frame.
-/
module

public import proofs.«01_k».proof.Proof.Data
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers. -/
abbrev sc0 : Memref sig .tc .vmem S16384x512 .f32 := Memref.whole cc0_scratch0
abbrev sc1 : Memref sig .tc .vmem S8x512 .f32 := Memref.whole cc0_scratch1
abbrev sc2 : Memref sig .tc .vmem S8x512 .f32 := Memref.whole cc0_scratch2
abbrev sc3 : Memref sig .tc .vmem S8x1 .f32 := Memref.whole cc0_scratch3
abbrev sc4 : Memref sig .tc .vmem S8x1 .f32 := Memref.whole cc0_scratch4

/-- The scratch buffers owned at given contents. -/
def scratch (c : Dev nD) (s : St F) : sProp 𝕄 :=
  iprop(owns (c : Thread nD τ) sc0 fullShare s.xb ∗ owns (c : Thread nD τ) sc1 fullShare s.ps ∗ owns (c : Thread nD τ) sc2 fullShare s.c3
    ∗ owns (c : Thread nD τ) sc3 fullShare s.b2 ∗ owns (c : Thread nD τ) sc4 fullShare s.cn)

/-- What is carried between the points: the scratch buffers at contents of which `Inv` holds. -/
def carried (c : Dev nD) (n : ℕ) : sProp 𝕄 :=
  iprop((∃ s, ⌜Inv m c n s⌝ ∗ scratch c s) ∗ (∃ r, prngReg c r))

theorem phiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The pipeline's proof data: the inputs' blocks stay in place, the output's buffer ends at the block `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t.val
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The output's window is idle, and not written back, exactly in the first phase. -/
theorem idle2 : ∀ t : Fin cfg0.N, t.val < 4 → cfg0.idle 2 (grid0.coords t) = true ∧ (cfg0.win 2).flush t = false :=
  (by decide +kernel : ∀ t : Fin grid0.N, t.val < 4 → cfg0.idle 2 (grid0.coords t) = true ∧ (cfg0.win 2).flush t = false)
theorem live2 : ∀ t : Fin cfg0.N, 4 ≤ t.val → cfg0.idle 2 (grid0.coords t) = false :=
  (by decide +kernel : ∀ t : Fin grid0.N, 4 ≤ t.val → cfg0.idle 2 (grid0.coords t) = false)

/-- The staging buffer of the output at point `t`. -/
abbrev ms2 (t : Fin cfg0.N) : Memref sig .tc .vmem S2048x512 .f32 := win0_2.stage (cfg0.slots t 2)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (ms2 t) fullShare ((dats m 0 c).before 2 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

/-- One point, from the run of its case: the body takes contents `s` to `s'`, of which `Inv` holds again, and leaves in the
    output's buffer what the point is to leave there. -/
theorem point (c : Dev nD) (t : Fin cfg0.N) (step : St F → St F) (out : Vec F S2048x512 .f32 → St F → Vec F S2048x512 .f32)
    (hrun : ∀ o s, Runs c (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      sc0 (Memref.isWhole_whole _) sc1 (Memref.isWhole_whole _) sc2 (Memref.isWhole_whole _) sc3 (Memref.isWhole_whole _) sc4 (Memref.isWhole_whole _)
      (iblk m c 0 t) (iblk m c 1 t) o (out o s) s (step s))
    (hinv : ∀ s, Inv m c t.val s → Inv m c (t.val + 1) (step s))
    (hout : ∀ d s, Inv m c t.val s →
      (owns (c : Thread nD τ) (ms2 t) fullShare (out ((dats m 0 c).before 2 t d) s) ⊢ (dats m 0 c).leavesExact 2 t)) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    show (dats m 0 c).Φ t.succ = carried m c (t.val + 1) from rfl, show (dats m 0 c).Φ t.castSucc = carried m c t.val from rfl,
    show (dats m 0 c).leavesExact 0 t = owns (c : Thread nD τ) (win0_0.stage (cfg0.slots t 0)) fullShare ((dats m 0 c).after 0 t) from rfl,
    show (dats m 0 c).leavesExact 1 t = owns (c : Thread nD τ) (win0_1.stage (cfg0.slots t 1)) fullShare ((dats m 0 c).after 1 t) from rfl,
    after0_0, after0_1]
  unfold carried scratch
  iintro ⟨⟨⟨%s, %hs, HS⟩, Hg⟩, Ho, ⟨%d0, H0⟩, ⟨%d1, H1⟩, ⟨%d2, H2⟩⟩
  have hr := hrun ((dats m 0 c).before 2 t d2) s
  unfold Runs holds at hr
  iapply hr
  isplitl [HS H0 H1 H2]
  · isplitl [H0]; · iexact H0
    isplitl [H1]; · iexact H1
    isplitl [H2]; · iexact H2
    iexact HS
  iintro ⟨H0, H1, H2, HS⟩
  isplitl [HS Hg]
  · isplitl [HS]
    · iexists _; isplitr; swap; · iexact HS
      ipureintro; exact hinv s hs
    iexact Hg
  isplitl [Ho]; · iexact Ho
  isplitl [H0]; · iexact H0
  isplitl [H1]; · iexact H1
  iapply (hout d2 s hs)
  iexact H2

/-- In the first phase the output's buffer goes back as it came. -/
theorem leaves_idle (c : Dev nD) (t : Fin cfg0.N) (ht : t.val < 4) (d) :
    owns (c : Thread nD τ) (ms2 t) fullShare ((dats m 0 c).before 2 t d) ⊢ (dats m 0 c).leavesExact 2 t := by
  rw [(dats m 0 c).leavesExact_idle 2 t (idle2 t ht).1 (idle2 t ht).2]
  iintro H; iexists d; iexact H

theorem sound_body (c : Dev nD) (t : Fin cfg0.N) :
    bodyPre m c t ⊢ wp frame (wpE (defs₀ (F := F)) Variants.none c none) Set.univ (bodyAt0 t) (fun _ => bodyPost m c t) := by
  have e0 : iblk m c 0 t = bd m c t.val := by unfold bd; rw [pt_val]
  have e1 : iblk m c 1 t = bx m c t.val := by unfold bx; rw [pt_val]
  by_cases h4 : 4 ≤ t.val
  · have hc := (hcond4 t).mpr h4
    refine point m c t id (fun _ s => k0_pay13 (VecWindow.window (s := S16384x512) s.xb (k0_off2 (grid0.coords t)) S2048x512.size (k0_off2_inb (grid0.coords t) hc)) s.ps s.b2 s.c3)
      (fun o s => runD c _ _ _ _ _ _ _ _ _ _ _ _ _ _ _ _ _ (fun h => by have := (hcond0 t).mp h; omega) hc _ _ _ _)
      (inv_D m c t h4) fun d s hs => ?_
    rw [out_D m c t h4 s hs hc, show (dats m 0 c).leavesExact 2 t = owns (c : Thread nD τ) (ms2 t) fullShare ((dats m 0 c).after 2 t) from by
      unfold Dat.leavesExact; rw [live2 t h4], after0_2]
  · have hc0 := (hcond0 t).mpr (by omega)
    have hc4 : ¬cond4 (grid0.coords t) := fun h => h4 ((hcond4 t).mp h)
    by_cases h0 : t.val = 0
    · refine point m c t (stepA (grid0.coords t) (iblk m c 0 t) (iblk m c 1 t)) (fun o _ => o)
        (fun o s => runA c _ _ _ _ _ _ _ _ _ _ _ _ _ _ _ _ _ hc0 ((hcond1 t).mpr h0) (fun h => by have := (hcond2 t).mp h; omega)
          (fun h => by have := (hcond3 t).mp h; omega) hc4 _ _ _ _)
        (by rw [e0, e1]; exact inv_A m c t h0) (fun d s _ => leaves_idle m c t (by omega) d)
    · have hc1 : ¬cond1 (grid0.coords t) := fun h => h0 ((hcond1 t).mp h)
      have hc2 := (hcond2 t).mpr (by omega)
      by_cases h3 : t.val = 3
      · refine point m c t (fun s => finish (stepB (grid0.coords t) (iblk m c 0 t) (iblk m c 1 t) s)) (fun o _ => o)
          (fun o s => runC c _ _ _ _ _ _ _ _ _ _ _ _ _ _ _ _ _ hc0 hc1 hc2 ((hcond3 t).mpr h3) hc4 _ _ _ _)
          (by rw [e0, e1]; exact inv_C m c t h3) (fun d s _ => leaves_idle m c t (by omega) d)
      · refine point m c t (stepB (grid0.coords t) (iblk m c 0 t) (iblk m c 1 t)) (fun o _ => o)
          (fun o s => runB c _ _ _ _ _ _ _ _ _ _ _ _ _ _ _ _ _ hc0 hc1 hc2 (fun h => h3 ((hcond3 t).mp h)) hc4 _ _ _ _)
          (by rw [e0, e1]; exact inv_B m c t (by omega) (by omega)) (fun d s _ => leaves_idle m c t (by omega) d)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is known of the scratch buffers, and after the last nothing is asked of them. -/
theorem hin (c : Dev nD) : Pipeline.ΦA spec0 c ⊢ (dats m 0 c).Φ 0 := by
  rw [show (dats m 0 c).Φ 0 = carried m c 0 from rfl, phiA_eq]
  unfold carried scratch
  iintro ⟨⟨⟨%d0, H0⟩, ⟨%d1, H1⟩, ⟨%d2, H2⟩, ⟨%d3, H3⟩, ⟨%d4, H4⟩⟩, Hg⟩
  isplitr [Hg]
  · iexists (⟨d0, d1, d2, d3, d4⟩ : St F)
    isplitr; · ipureintro; exact inv_zero m c _
    isplitl [H0]; · iexact H0
    isplitl [H1]; · iexact H1
    isplitl [H2]; · iexact H2
    isplitl [H3]; · iexact H3
    iexact H4
  iexact Hg

theorem hout (c : Dev nD) : (dats m 0 c).Φ (Fin.last cfg0.N) ⊢ Pipeline.ΦA spec0 c := by
  rw [show (dats m 0 c).Φ (Fin.last cfg0.N) = carried m c cfg0.N from rfl, phiA_eq]
  unfold carried scratch
  iintro ⟨⟨%s, -, H0, H1, H2, H3, H4⟩, Hg⟩
  isplitr [Hg]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
/-- The launch: every run ends, with every array at what the blocks written into it make of it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (hQ' := fun _ h => h)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.KernelFrame.lean ====
/-
The kernel's frame, from the ideal kernel's. The ideal kernel is stated at any floats together with a
reading of its named constant; reading the constant as its own pattern at the machine's floats, the two
programs are the same, and `Cert.KernelIdeal.Hand.frame` is about both.
-/
module

public import proofs.«01_k».proof.Defs
public import proofs.«01_k».proof.Proof.Gen.Kernel
public import proofs.«01_k».proof.Proof.Gen.KernelIdeal
public import proofs.«01_k».proof.Proof.Run

@[expose] public section

noncomputable section

namespace Cert.Kernel.Hand

open Idealize.ShloMosaic Idealize.SL.Sem Idealize.ShloMosaic.TcCoe

/-- A named constant read as its own pattern, at the machine's floats. -/
@[reducible] def patterns : Named Bits where
  named _ _ {_} bits := Scalar.ofBits _ bits

attribute [local instance] patterns

/-- The two kernel functions are one. -/
theorem fused_kernel_eq : @Cert.Kernel.cc0__fused_kernel Bits _ _ = @Cert.KernelIdeal.cc0__fused_kernel Bits _ _ _ := rfl

/-- So are the bodies the two tables name, -/
theorem onTc_eq (l : Cert.Kernel.Λ₀.Label) (a : Cert.Kernel.Λ₀.Args l) :
    Cert.Kernel.defs₀ (F := Bits) .tc l a = Cert.KernelIdeal.defs₀ (F := Bits) .tc l a :=
  match l, a with
  | 0, (t, s) => rfl
  | ⟨_ + 1, h⟩, _ => absurd h (Nat.not_lt.2 (Nat.le_add_left _ _))

/-- the tables, -/
theorem defs₀_eq : Cert.Kernel.defs₀ (F := Bits) = Cert.KernelIdeal.defs₀ (F := Bits) :=
  funext fun p => match p with
    | .tc => funext fun l => funext fun a => onTc_eq l a
    | .scScalar _ => rfl
    | .scVector _ _ => rfl

/-- the tables with the pipeline's own labels, -/
theorem defs_eq : Cert.Kernel.defs (F := Bits) = Cert.KernelIdeal.defs (F := Bits) :=
  congrArg (Pipeline.defs Cert.Kernel.pcfgs) defs₀_eq

/-- and the programs. -/
theorem main_eq : Cert.Kernel.main (F := Bits) = Cert.KernelIdeal.main (F := Bits) := rfl

/-- The kernel terminates, and leaves its arguments unchanged and every counter at zero. -/
theorem frame : Cert.quiescent_Kernel := fun m ρ _ => by
  rw [defs_eq, main_eq]
  exact Cert.KernelIdeal.Hand.frame (F := Bits) m ρ

end Cert.Kernel.Hand

end
-- ==== Proof.Array.lean ====
/-
What the arrays hold: every block read is a block of the arguments, and the result array is made of
the blocks that the points of the second phase leave.
-/
module

public import proofs.«01_k».proof.Proof.Run
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.ShloMosaic.Pipeline (Dat Cfg Window)
open Cert.KernelIdeal.Gen

variable {F : FTy → Type} [FloatOps F] [Named F]
variable (m : (ℓ : Loc nD τ sig) → Buf (Elt F) ℓ) (c : Dev nD)

/-- The arguments as launched. -/
abbrev arg0 : Vec F S16384x512 .f32 := m ((c.tc : Thread nD τ).loc main_arg0)
abbrev arg1 : Vec F S16384 .i32 := m ((c.tc : Thread nD τ).loc main_arg1)

/-- Where each window's block begins. -/
theorem index0 : ∀ t : Fin cfg0.N, t.val < 4 → win0_0.index t = ![t.val, 0, 0] :=
  (by decide +kernel : ∀ t : Fin grid0.N, t.val < 4 → win0_0.index t = ![t.val, 0, 0])
theorem index1 : ∀ t : Fin cfg0.N, t.val < 4 → win0_1.index t = ![t.val, 0] :=
  (by decide +kernel : ∀ t : Fin grid0.N, t.val < 4 → win0_1.index t = ![t.val, 0])
theorem index2 : ∀ t : Fin cfg0.N, 4 ≤ t.val → win0_2.index t = ![t.val - 4, 0] :=
  (by decide +kernel : ∀ t : Fin grid0.N, 4 ≤ t.val → win0_2.index t = ![t.val - 4, 0])
theorem flush2 : ∀ t : Fin cfg0.N, (cfg0.win 2).flush t = true → 4 ≤ t.val :=
  (by decide +kernel : ∀ t : Fin grid0.N, (win0 2).flush t = true → 4 ≤ t.val)

/-- The domains as the kernel is given them: four rows of 4096. -/
theorem V_doms : V m c main_call0_v0 = shapeCast S4x1x4096 (arg1 m c) shapeCasts_S16384_S4x1x4096 := by
  unfold V
  simp only [hostOps0]
  after_results
  rfl

/-- The block of rows read at point `j` is rows `4096 j …` of the features. -/
theorem bx_apply (j : ℕ) (hj : j < 4) (r : Fin 4096) (q : Fin 512) :
    bx m c j (ix2 r q) = arg0 m c (ix2 ⟨4096 * j + r.val, by omega⟩ q) := by
  have ej : (pt j).val = j := Nat.mod_eq_of_lt (by omega)
  have e := index1 (pt j) (by omega)
  rw [ej] at e
  unfold bx
  blk_simp [iblk]
  rw [V_main_arg0]
  refine congrArg (arg0 m c) (funext fun a => Fin.ext ?_)
  match a with
  | 0 => blk_simp [e]; show j * 4096 + r.val = 4096 * j + r.val; omega
  | 1 => blk_simp [e]

/-- The block of domains read at point `j` is entries `4096 j …` of the domains. -/
theorem bd_apply (j : ℕ) (hj : j < 4) (r : Fin 4096) :
    bd m c j (ix3 0 0 r) = arg1 m c (ix1 ⟨4096 * j + r.val, by omega⟩) := by
  have ej : (pt j).val = j := Nat.mod_eq_of_lt (by omega)
  have e := index0 (pt j) (by omega)
  rw [ej] at e
  unfold bd
  blk_simp [iblk]
  rw [V_doms, show (win0_0.blk (pt j)).view.emb (ix3 0 0 r) = ix3 ⟨j, hj⟩ 0 r from funext fun a => Fin.ext (by
    match a with
    | 0 => blk_simp [e]; rfl
    | 1 => blk_simp [e]
    | 2 => blk_simp [e])]
  pointwise
  refine congrArg (arg1 m c) (funext fun a => Fin.ext ?_)
  match a with
  | 0 => show j * 4096 + r.val = 4096 * j + r.val; omega

/-- The rows the kernel keeps are the features. -/
theorem rows_apply (r : Fin 16384) (q : Fin 512) : rows m c (ix2 r q) = arg0 m c (ix2 r q) := by
  show bx m c (r.val / 4096) (ix2 ⟨r.val % 4096, _⟩ q) = _
  rw [bx_apply m c _ (by omega)]
  refine congrArg (fun z => arg0 m c (ix2 z q)) (Fin.ext ?_)
  show 4096 * (r.val / 4096) + r.val % 4096 = r.val
  omega

/-- The result at a row: that row of the block that the row's point leaves. -/
theorem final (r : Fin 16384) (q : Fin 512) :
    (dats m 0 c).arrAt 2 cfg0.N (ix2 r q) = outBlk m c (4 + r.val / 2048) (ix2 ⟨r.val % 2048, by omega⟩ q) := by
  have h := (dats m 0 c).arrAt_eq_of_covers 2
    (fun y : S16384x512.Idx => outBlk m c (4 + (y 0).val / 2048) (ix2 ⟨(y 0).val % 2048, Nat.mod_lt _ (by decide)⟩ (y 1))) (by decide +kernel) fun t hf y => by
      have ht := flush2 t hf
      have e := index2 t ht
      have e0 : win0_2.index t 0 = t.val - 4 := congrFun e 0
      have hy : (y 0).val < 2048 := (y 0).isLt
      have e1 : 4 + (win0_2.index t 0 * 2048 + (y 0).val) / 2048 = t.val := by rw [e0]; omega
      blk_simp
      rw [after0_2, e1]
      refine congrArg (outBlk m c t.val) (funext fun a => Fin.ext ?_)
      match a with
      | 0 => show (y 0).val = (win0_2.index t 0 * 2048 + (y 0).val) % 2048; rw [e0]; omega
      | 1 => blk_simp [e]
  exact congrFun h _

end Cert.KernelIdeal.Hand

end
-- ==== Proof.Spec.lean ====
/-
The mathematics both programs compute, over the reals: the count, the sum and the centroid of each
domain, the key by which centroids are compared, the furthest centroid of a row, and the mix.
-/
module

public import Idealize.ShloMosaic.PureOps.Ideal.Laws

@[expose] public section

noncomputable section

namespace Cert.DomainMix

open Idealize.ShloMosaic

/-- The features as reals, and the domains as words. -/
abbrev Feat := Fin 16384 → Fin 512 → ℝ
abbrev Doms := Fin 16384 → BitVec 32

variable (x : Feat) (d : Doms)

/-- How many rows are of domain `k`. -/
def cnt (k : ℕ) : ℕ := (Finset.univ.filter fun r => d r = BitVec.ofNat 32 k).card

/-- The sum of the rows of domain `k`. -/
def sm (k : ℕ) (c : Fin 512) : ℝ := ∑ r ∈ Finset.univ.filter (fun r => d r = BitVec.ofNat 32 k), x r c

/-- The centroid of domain `k`, zero where there is no row. -/
def ctr (k : ℕ) (c : Fin 512) : ℝ := if 0 < cnt d k then sm x d k c / cnt d k else 0

/-- The squared distance of row `r` to centroid `k`, less the squared norm of the row. -/
def key (k : ℕ) (r : Fin 16384) : ℝ := ∑ c, ctr x d k c * ctr x d k c - 2 * ∑ c, ctr x d k c * x r c

/-- `k` is the first among the domains with rows whose centroid is furthest from row `r`. -/
structure Far (r : Fin 16384) (k : ℕ) : Prop where
  lt : k < 7
  pos : 0 < cnt d k
  le : ∀ j, j < 7 → 0 < cnt d j → key x d j r ≤ key x d k r
  first : ∀ j, j < k → 0 < cnt d j → key x d j r < key x d k r

/-- The constants 0.3 and 0.7 as the two programs hold them. -/
def c3 : ℝ := 10066330 / 33554432
def c7 : ℝ := 23488102 / 33554432

theorem c7_eq : c7 = 1 - c3 := by unfold c7 c3; norm_num

/-- The row moved towards the centroid `k`. -/
def mixed (k : ℕ) (r : Fin 16384) (c : Fin 512) : ℝ := x r c + c3 * (ctr x d k c - x r c)

theorem mixed_eq (k : ℕ) (r : Fin 16384) (c : Fin 512) : mixed x d k r c = c7 * x r c + c3 * ctr x d k c := by
  unfold mixed; rw [c7_eq]; ring

/-- Among finitely many numbers, some of which count, there is a first largest. -/
theorem exists_first (p : ℕ → Prop) (f : ℕ → ℝ) : ∀ n, (∃ k, k < n ∧ p k) →
    ∃ k, k < n ∧ p k ∧ (∀ j, j < n → p j → f j ≤ f k) ∧ ∀ j, j < k → p j → f j < f k
  | 0, h => by obtain ⟨k, hk, _⟩ := h; omega
  | n + 1, h => by
    by_cases hn : ∃ k, k < n ∧ p k
    · obtain ⟨k, hk, pk, hle, hlt⟩ := exists_first p f n hn
      by_cases hb : p n ∧ f k < f n
      · refine ⟨n, by omega, hb.1, fun j hj pj => ?_, fun j hj pj => lt_of_le_of_lt (hle j hj pj) hb.2⟩
        rcases Nat.lt_succ_iff_lt_or_eq.mp hj with h' | rfl
        · exact (hle j h' pj).trans hb.2.le
        · exact le_rfl
      · refine ⟨k, by omega, pk, fun j hj pj => ?_, hlt⟩
        rcases Nat.lt_succ_iff_lt_or_eq.mp hj with h' | rfl
        · exact hle j h' pj
        · exact not_lt.mp fun h' => hb ⟨pj, h'⟩
    · obtain ⟨k, hk, pk⟩ := h
      have : k = n := by
        by_contra hne
        exact hn ⟨k, by omega, pk⟩
      subst this
      refine ⟨k, hk, pk, fun j hj pj => ?_, fun j hj pj => absurd ⟨j, hj, pj⟩ hn⟩
      rcases Nat.lt_succ_iff_lt_or_eq.mp hj with h' | rfl
      · exact absurd ⟨j, h', pj⟩ hn
      · exact le_rfl

/-- A domain is in range when it is one of 0..6. -/
def InRange : Prop := ∀ r, (d r).toNat < 7

variable {d}

theorem cnt_pos_of (r : Fin 16384) : 0 < cnt d (d r).toNat :=
  Finset.card_pos.mpr ⟨r, Finset.mem_filter.mpr ⟨Finset.mem_univ r, by rw [BitVec.ofNat_toNat, BitVec.setWidth_eq]⟩⟩

/-- No row is of domain 7. -/
theorem cnt_seven (h : InRange d) : cnt d 7 = 0 :=
  Finset.card_eq_zero.mpr (Finset.filter_eq_empty_iff.mpr fun r _ e => by
    have := h r
    rw [e] at this
    exact absurd this (by decide))

/-- With the domains in range every row has a furthest centroid. -/
theorem exists_far (h : InRange d) (r : Fin 16384) : ∃ k, Far x d r k := by
  obtain ⟨k, hk, pk, hle, hlt⟩ := exists_first (fun k => 0 < cnt d k) (fun k => key x d k r) 7 ⟨(d r).toNat, h r, cnt_pos_of r⟩
  exact ⟨k, hk, pk, hle, hlt⟩

/-- The squared norm of a row plus a key is a sum of squares. -/
theorem norm_add_key (k : ℕ) (r : Fin 16384) :
    0 ≤ ∑ c, x r c * x r c + key x d k r := by
  have : ∑ c, x r c * x r c + key x d k r = ∑ c, (x r c - ctr x d k c) ^ 2 := by
    unfold key
    rw [Finset.mul_sum, ← Finset.sum_sub_distrib, ← Finset.sum_add_distrib]
    exact Finset.sum_congr rfl fun c _ => by ring
  rw [this]
  exact Finset.sum_nonneg fun c _ => sq_nonneg _

/-! ## Real sums as extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (d) in
/-- The count of a domain, as a sum of ones. -/
theorem sum_cnt (k : ℕ) : ∑ r, (if d r = BitVec.ofNat 32 k then (1 : EReal) else 0) = ((cnt d k : ℝ) : EReal) := by
  unfold cnt
  rw [← Finset.sum_filter, Finset.sum_const, nsmul_one]
  rfl

variable (d) in
/-- The sum of a domain, as a sum of weighted rows. -/
theorem sum_sm (k : ℕ) (c : Fin 512) :
    ∑ r, (if d r = BitVec.ofNat 32 k then (1 : EReal) else 0) * ((x r c : ℝ) : EReal) = ((sm x d k c : ℝ) : EReal) := by
  unfold sm
  rw [coe_sum, Finset.sum_filter]
  exact Finset.sum_congr rfl fun r _ => by split <;> simp

theorem zero_lt_cnt (k : ℕ) : (0 : EReal) < ((cnt d k : ℝ) : EReal) ↔ 0 < cnt d k := by
  rw [← EReal.coe_zero, EReal.coe_lt_coe_iff, Nat.cast_pos]

variable (d) in
/-- The sum divided by the count, guarded against no rows, is the centroid. -/
theorem div_ctr (k : ℕ) (c : Fin 512) :
    (if (0 : EReal) < ((cnt d k : ℝ) : EReal) then Ideal.div ((sm x d k c : ℝ) : EReal) (max ((cnt d k : ℝ) : EReal) 1) else 0)
      = ((ctr x d k c : ℝ) : EReal) := by
  unfold ctr
  by_cases h : 0 < cnt d k
  · have h1 : (1 : ℝ) ≤ cnt d k := by exact_mod_cast h
    rw [if_pos ((zero_lt_cnt k).mpr h), if_pos h, max_eq_left (by rw [← EReal.coe_one]; exact EReal.coe_le_coe_iff.mpr h1),
      Ideal.div_coe (by linarith), ← EReal.coe_mul, mul_one_div]
  · rw [if_neg (mt (zero_lt_cnt k).mp h), if_neg h, EReal.coe_zero]

/-- The constants' bits are the constants. -/
theorem bits_c3 : Ideal.ofBits .f32 0x3E99999A#32 = (c3 : EReal) := by
  unfold c3; simp [Ideal.ofBits, Ideal.ieee, -EReal.coe_mul]; norm_num
theorem bits_c7 : Ideal.ofBits .f32 0x3F333333#32 = (c7 : EReal) := by
  unfold c7; simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul]; norm_num
theorem bits_bot : Ideal.ofBits .f32 0xFF800000#32 = ⊥ := by
  simp [Ideal.ofBits, Ideal.ieee, -EReal.coe_mul]

end Cert.DomainMix

end
-- ==== Proof.Block.lean ====
/-
What one block of the second phase computes from the centroids, read at an index: the scores of the
eight rows of centroids, the first largest of them, and the mix of every row with that centroid.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Hand

open Idealize.ShloMosaic Idealize.ShloMosaic.TcCoe
open Cert.KernelIdeal.Gen Cert.DomainMix

/-! ## The steps of the computation -/

/-- Masked squared norm less twice the product. -/
def score (x : Vec Ideal S2048x512 .f32) (g : Vec Ideal S8x512 .f32) (b : Vec Ideal S8x1 .f32) : FVec Ideal S8x2048 .f32 :=
  subf (broadcastTo S8x2048 b broadcasts_S8x1_S8x2048)
    (mulf (broadcast S8x2048 (Scalar.ofBits .f32 0x40000000#32))
      (matmul (φ₁ := .f32) (φ₂ := .f32) dot_S8x512_S2048x512_S8x2048_1_1_0_0_n_n none g x (constant S8x2048 .f32 0x00000000#32)))

/-- The largest of the eight scores, in three halvings. -/
def best (w : FVec Ideal S8x2048 .f32) : FVec Ideal S1x2048 .f32 :=
  have u := maximumf (extractStridedSlice S4x2048 ![0, 0] w slices_S8x2048_o0_0_S4x2048) (extractStridedSlice S4x2048 ![4, 0] w slices_S8x2048_o4_0_S4x2048)
  have v := maximumf (extractStridedSlice S2x2048 ![0, 0] u slices_S4x2048_o0_0_S2x2048) (extractStridedSlice S2x2048 ![2, 0] u slices_S4x2048_o2_0_S2x2048)
  maximumf (extractStridedSlice S1x2048 ![0, 0] v slices_S2x2048_o0_0_S1x2048) (extractStridedSlice S1x2048 ![1, 0] v slices_S2x2048_o1_0_S1x2048)

/-- The row numbers at which the largest score is met, 8 elsewhere. -/
def hits (w : FVec Ideal S8x2048 .f32) (m : FVec Ideal S1x2048 .f32) : IVec S8x2048 32 :=
  select (cmpf .oeq w (broadcastTo S8x2048 m broadcasts_S1x2048_S8x2048))
    (broadcastTo S8x2048 (shapeCast S8x1 (iota .tc S8x1 32 [0] iota_S8x1_d0_w32) shapeCasts_S8x1_S8x1) broadcasts_S8x1_S8x2048)
    (broadcast S8x2048 8#32)

/-- The least of the eight row numbers, in three halvings. -/
def least (i : IVec S8x2048 32) : IVec S1x2048 32 :=
  have u := minsi (extractStridedSlice S4x2048 ![0, 0] i slices_S8x2048_o0_0_S4x2048) (extractStridedSlice S4x2048 ![4, 0] i slices_S8x2048_o4_0_S4x2048)
  have v := minsi (extractStridedSlice S2x2048 ![0, 0] u slices_S4x2048_o0_0_S2x2048) (extractStridedSlice S2x2048 ![2, 0] u slices_S4x2048_o2_0_S2x2048)
  minsi (extractStridedSlice S1x2048 ![0, 0] v slices_S2x2048_o0_0_S1x2048) (extractStridedSlice S1x2048 ![1, 0] v slices_S2x2048_o1_0_S1x2048)

/-- 0.7 of the rows plus the centroids (already times 0.3) selected by a one-hot product. -/
def mix (x : Vec Ideal S2048x512 .f32) (l : IVec S1x2048 32) (g3 : Vec Ideal S8x512 .f32) : FVec Ideal S2048x512 .f32 :=
  addf (mulf (broadcast S2048x512 (Scalar.ofBits .f32 0x3F333333#32)) x)
    (matmul (φ₁ := .f32) (φ₂ := .f32) dot_S8x2048_S8x512_S2048x512_0_0_1_1_n_n none
      (sitofp .f32 (extui 32 (cmpi .eq (broadcastTo S8x2048 (iota .tc S8x1 32 [0] iota_S8x1_d0_w32) broadcasts_S8x1_S8x2048)
        (broadcastTo S8x2048 l broadcasts_S1x2048_S8x2048)) natLt_1_32))
      g3 (constant S2048x512 .f32 0x00000000#32))

/-- The block's payload is these steps. -/
theorem pay13_eq (x : Vec Ideal S2048x512 .f32) (g : Vec Ideal S8x512 .f32) (b : Vec Ideal S8x1 .f32) (g3 : Vec Ideal S8x512 .f32) :
    k0_pay13 x g b g3 = mix x (least (hits (score x g b) (best (score x g b)))) g3 := rfl

/-! ## The steps at an index -/

theorem score_apply (x : Vec Ideal S2048x512 .f32) (g : Vec Ideal S8x512 .f32) (b : Vec Ideal S8x1 .f32) (k : Fin 8) (r : Fin 2048) :
    score x g b (ix2 k r) = b (ix2 k 0) - ((2 : ℝ) : EReal) * ∑ c : Fin 512, g (ix2 k c) * x (ix2 r c) := by
  pointwise [score]
  rw [bits_two]

theorem best_apply (w : FVec Ideal S8x2048 .f32) (r : Fin 2048) :
    best w (ix2 0 r) = max (max (max (w (ix2 0 r)) (w (ix2 4 r))) (max (w (ix2 2 r)) (w (ix2 6 r))))
      (max (max (w (ix2 1 r)) (w (ix2 5 r))) (max (w (ix2 3 r)) (w (ix2 7 r)))) := by
  pointwise [best]

/-- The largest score is the score of any row that none exceeds. -/
theorem best_of (w : FVec Ideal S8x2048 .f32) (r : Fin 2048) (K : Fin 8) (h : ∀ k : Fin 8, w (ix2 k r) ≤ w (ix2 K r)) :
    best w (ix2 0 r) = w (ix2 K r) := by
  rw [best_apply]
  refine le_antisymm (by simp only [max_le_iff]; simp only [h, and_self]) ?_
  simp only [le_max_iff]
  match K with
  | 0 | 1 | 2 | 3 | 4 | 5 | 6 | 7 => simp only [le_refl, true_or, or_true]

theorem hits_apply (w : FVec Ideal S8x2048 .f32) (m : FVec Ideal S1x2048 .f32) (k : Fin 8) (r : Fin 2048) :
    hits w m (ix2 k r) = if w (ix2 k r) = m (ix2 0 r) then BitVec.ofNat 32 k else 8#32 := by
  pointwise [hits]

theorem least_apply (i : IVec S8x2048 32) (r : Fin 2048) :
    least i (ix2 0 r) = IntOp.minsi (IntOp.minsi (IntOp.minsi (i (ix2 0 r)) (i (ix2 4 r))) (IntOp.minsi (i (ix2 2 r)) (i (ix2 6 r))))
      (IntOp.minsi (IntOp.minsi (i (ix2 1 r)) (i (ix2 5 r))) (IntOp.minsi (i (ix2 3 r)) (i (ix2 7 r)))) := by
  pointwise [least]

theorem minsi_ofNat (a b : ℕ) (ha : a ≤ 8) (hb : b ≤ 8) :
    IntOp.minsi (BitVec.ofNat 32 a) (BitVec.ofNat 32 b) = BitVec.ofNat 32 (min a b) :=
  (by decide : ∀ a b : Fin 9, IntOp.minsi (BitVec.ofNat 32 a.val) (BitVec.ofNat 32 b.val) = BitVec.ofNat 32 (min a.val b.val))
    ⟨a, by omega⟩ ⟨b, by omega⟩

/-- Of row numbers none of which is below `K` and one of which is `K`, the least is `K`. -/
theorem least_of (i : IVec S8x2048 32) (r : Fin 2048) (K : Fin 8) (n : Fin 8 → ℕ) (hi : ∀ k, i (ix2 k r) = BitVec.ofNat 32 (n k))
    (h8 : ∀ k, n k ≤ 8) (hK : n K = K) (hle : ∀ k, K.val ≤ n k) : least i (ix2 0 r) = BitVec.ofNat 32 K := by
  rw [least_apply]
  simp only [hi]
  have b0 := h8 0; have b1 := h8 1; have b2 := h8 2; have b3 := h8 3
  have b4 := h8 4; have b5 := h8 5; have b6 := h8 6; have b7 := h8 7
  have l0 := hle 0; have l1 := hle 1; have l2 := hle 2; have l3 := hle 3
  have l4 := hle 4; have l5 := hle 5; have l6 := hle 6; have l7 := hle 7
  rw [minsi_ofNat _ _ b0 b4, minsi_ofNat _ _ b2 b6, minsi_ofNat _ _ b1 b5, minsi_ofNat _ _ b3 b7,
    minsi_ofNat _ _ (by omega) (by omega), minsi_ofNat _ _ (by omega) (by omega), minsi_ofNat _ _ (by omega) (by omega)]
  congr 1
  refine le_antisymm ?_ (by omega)
  simp only [min_le_iff]
  match K, hK with
  | 0, h | 1, h | 2, h | 3, h | 4, h | 5, h | 6, h | 7, h => simp only [h, le_refl, true_or, or_true]

/-- The first row that no score exceeds is the one found. -/
theorem found (w : FVec Ideal S8x2048 .f32) (r : Fin 2048) (K : Fin 8) (h : ∀ k : Fin 8, w (ix2 k r) ≤ w (ix2 K r))
    (hfirst : ∀ k : Fin 8, k.val < K.val → w (ix2 k r) ≠ w (ix2 K r)) : least (hits w (best w)) (ix2 0 r) = BitVec.ofNat 32 K := by
  refine least_of _ r K (fun k => if w (ix2 k r) = w (ix2 K r) then k.val else 8) (fun k => ?_) (fun k => ?_) (if_pos rfl) fun k => ?_
  · rw [hits_apply, best_of w r K h]; split <;> rfl
  · split
    · omega
    · exact le_rfl
  · split
    · rename_i e
      exact not_lt.mp fun hlt => hfirst k hlt e
    · omega

/-- A comparison for equality read as a float: one where the words agree, zero elsewhere. -/
theorem onehot (a b : BitVec 32) :
    FloatOps.sitofp (F := Ideal) .f32 (BitVec.setWidth 32 (IntOp.cmpi .eq a b)) = if a = b then (1 : EReal) else 0 := by
  show (((BitVec.setWidth 32 (BitVec.ofBool (a == b))).toInt : ℝ) : EReal) = _
  by_cases h : a = b
  · rw [if_pos h, beq_iff_eq.mpr h]; simp
  · rw [if_neg h, beq_eq_false_iff_ne.mpr h]; simp

/-- Mixing in row `K` of the scaled centroids. -/
theorem mix_apply (x : Vec Ideal S2048x512 .f32) (l : IVec S1x2048 32) (g3 : Vec Ideal S8x512 .f32) (r : Fin 2048) (c : Fin 512)
    (K : Fin 8) (h : l (ix2 0 r) = BitVec.ofNat 32 K) :
    mix x l g3 (ix2 r c) = ((Cert.DomainMix.c7 : ℝ) : EReal) * x (ix2 r c) + g3 (ix2 K c) := by
  pointwise [mix]
  rw [h, Cert.DomainMix.bits_c7]
  congr 1
  rw [Finset.sum_eq_single K]
  · rw [onehot, if_pos rfl, one_mul]
  · intro k _ hk
    rw [onehot, if_neg, zero_mul]
    intro e
    refine hk (Fin.ext ?_)
    have := congrArg BitVec.toNat e
    simp only [BitVec.toNat_ofNat] at this
    omega
  · exact fun hk => absurd (Finset.mem_univ K) hk

end Cert.KernelIdeal.Hand

end
-- ==== Proof.Centroid.lean ====
/-
What the first phase of the kernel leaves: the sums, the counts and the centroids of the eight rows,
and, from them, the block of the result, in the terms of the specification.
-/
module

public import proofs.«01_k».proof.Proof.Array
public import proofs.«01_k».proof.Proof.Block

@[expose] public section

set_option maxRecDepth 16384

noncomputable section

namespace Cert.KernelIdeal.Hand

open Idealize.ShloMosaic Idealize.ShloMosaic.TcCoe
open Cert.KernelIdeal.Gen Cert.DomainMix

/-! ## One block of the first phase -/

theorem pay5_apply (x : Vec Ideal S4096x512 .f32) (d : Vec Ideal S1x1x4096 .i32) (k : Fin 8) (c : Fin 512) :
    k0_pay5 x d (ix2 k c) = ∑ r, (if d (ix3 0 0 r) = BitVec.ofNat 32 k then (1 : EReal) else 0) * x (ix2 r c) := by
  pointwise [k0_pay5, k0_pay3, k0_pay2]
  simp only [onehot]

theorem pay6_apply (d : Vec Ideal S1x1x4096 .i32) (k : Fin 8) :
    k0_pay6 d (ix2 k 0) = ∑ r, (if d (ix3 0 0 r) = BitVec.ofNat 32 k then (1 : EReal) else 0) := by
  pointwise [k0_pay6, k0_pay4, k0_pay2]
  simp only [onehot]

theorem pay7_apply (x : Vec Ideal S4096x512 .f32) (d : Vec Ideal S1x1x4096 .i32) (s : Vec Ideal S8x512 .f32) (k : Fin 8) (c : Fin 512) :
    k0_pay7 x d s (ix2 k c) = s (ix2 k c) + k0_pay5 x d (ix2 k c) := by
  pointwise [k0_pay7, k0_pay5, k0_pay3, k0_pay2]

theorem pay8_apply (d : Vec Ideal S1x1x4096 .i32) (n : Vec Ideal S8x1 .f32) (k : Fin 8) :
    k0_pay8 d n (ix2 k 0) = n (ix2 k 0) + k0_pay6 d (ix2 k 0) := by
  pointwise [k0_pay8, k0_pay6, k0_pay4, k0_pay2]

theorem pay10_apply (n : Vec Ideal S8x1 .f32) (s : Vec Ideal S8x512 .f32) (k : Fin 8) (c : Fin 512) :
    k0_pay10 n s (ix2 k c) = if 0 < n (ix2 k 0) then Ideal.div (s (ix2 k c)) (max (n (ix2 k 0)) 1) else 0 := by
  pointwise [k0_pay10, k0_pay9]

theorem pay11_apply (n : Vec Ideal S8x1 .f32) (s : Vec Ideal S8x512 .f32) (k : Fin 8) (c : Fin 512) :
    k0_pay11 n s (ix2 k c) = ((c3 : ℝ) : EReal) * k0_pay10 n s (ix2 k c) := by
  pointwise [k0_pay11, k0_pay10]
  rw [← bits_c3]

theorem pay12_apply (n : Vec Ideal S8x1 .f32) (s : Vec Ideal S8x512 .f32) (k : Fin 8) :
    k0_pay12 n s (ix2 k 0) = if 0 < n (ix2 k 0) then ∑ c, k0_pay10 n s (ix2 k c) * k0_pay10 n s (ix2 k c) else ⊥ := by
  pointwise [k0_pay12, k0_pay10]
  rw [show (Named.named κ "mask" 4048155338#32 : Ideal .f32) = (⊥ : EReal) from IdealRules.named_const.ideal_named_scalar _ _ _ _ rfl]

/-- A sum over all the rows, block by block. -/
theorem sum_blocks {M : Type} [AddCommMonoid M] (f : Fin 16384 → M) (P : ℕ → M)
    (h : ∀ (j : ℕ) (hj : j < 4), P j = ∑ r : Fin 4096, f ⟨4096 * j + r.val, by omega⟩) :
    P 0 + P 1 + P 2 + P 3 = ∑ r, f r := by
  rw [h 0 (by omega), h 1 (by omega), h 2 (by omega), h 3 (by omega),
    ← Equiv.sum_comp (finProdFinEquiv (m := 4) (n := 4096)) f, Fintype.sum_prod_type, Fin.sum_univ_four]
  refine congrArg₂ (· + ·) (congrArg₂ (· + ·) (congrArg₂ (· + ·) ?_ ?_) ?_) ?_ <;>
    exact Finset.sum_congr rfl fun r _ => congrArg f (Fin.ext (Nat.add_comm _ _))

/-! ## What the first phase leaves -/

section
variable (m : (ℓ : Loc nD τ sig) → Buf (Elt Ideal) ℓ) (c : Dev nD)

/-- The domains as words. -/
def doms : Doms := fun r => arg1 m c (ix1 r)

/-- The features are these reals. -/
def IsFeat (x : Feat) : Prop := ∀ r q, arg0 m c (ix2 r q) = ((x r q : ℝ) : EReal)

variable {m c} {x : Feat}

theorem cnts_apply (k : Fin 8) : cnts m c 3 (ix2 k 0) = ((cnt (doms m c) k : ℝ) : EReal) := by
  have h := sum_blocks (fun r => if doms m c r = BitVec.ofNat 32 k then (1 : EReal) else 0) (fun j => k0_pay6 (bd m c j) (ix2 k 0))
    fun j hj => by
      rw [pay6_apply]
      exact Finset.sum_congr rfl fun r _ => by rw [bd_apply m c j hj]; rfl
  rw [← sum_cnt, ← h]
  simp only [cnts, pay8_apply]

theorem sums_apply (hx : IsFeat m c x) (k : Fin 8) (q : Fin 512) :
    sums m c 3 (ix2 k q) = ((sm x (doms m c) k q : ℝ) : EReal) := by
  have h := sum_blocks (fun r => (if doms m c r = BitVec.ofNat 32 k then (1 : EReal) else 0) * ((x r q : ℝ) : EReal))
    (fun j => k0_pay5 (bx m c j) (bd m c j) (ix2 k q)) fun j hj => by
      rw [pay5_apply]
      exact Finset.sum_congr rfl fun r _ => by rw [bd_apply m c j hj, bx_apply m c j hj, hx]; rfl
  rw [← sum_sm, ← h]
  simp only [sums, pay7_apply]

theorem cent_apply (hx : IsFeat m c x) (k : Fin 8) (q : Fin 512) :
    cent m c (ix2 k q) = ((ctr x (doms m c) k q : ℝ) : EReal) := by
  unfold cent
  rw [pay10_apply, cnts_apply, sums_apply hx, div_ctr]

theorem cent3_apply (hx : IsFeat m c x) (k : Fin 8) (q : Fin 512) :
    cent3 m c (ix2 k q) = ((c3 * ctr x (doms m c) k q : ℝ) : EReal) := by
  rw [EReal.coe_mul, ← cent_apply hx]
  exact pay11_apply _ _ k q

theorem norm2_apply (hx : IsFeat m c x) (k : Fin 8) :
    norm2 m c (ix2 k 0) = if 0 < cnt (doms m c) k then ((∑ q, ctr x (doms m c) k q * ctr x (doms m c) k q : ℝ) : EReal) else ⊥ := by
  have h : norm2 m c (ix2 k 0) = if 0 < cnts m c 3 (ix2 k 0) then ∑ q, cent m c (ix2 k q) * cent m c (ix2 k q) else ⊥ :=
    pay12_apply _ _ k
  rw [h, cnts_apply]
  simp only [zero_lt_cnt, cent_apply hx, coe_sum, EReal.coe_mul]

/-! ## The second phase -/

/-- The row a point of the second phase has at a place. -/
theorem outRows_apply (hx : IsFeat m c x) (r : Fin 16384) (q : Fin 512) :
    outRows m c (4 + r.val / 2048) (ix2 ⟨r.val % 2048, by omega⟩ q) = ((x r q : ℝ) : EReal) := by
  unfold outRows
  rw [← hx, ← rows_apply m c]
  refine congrArg (fun z => rows m c (ix2 z q)) (Fin.ext ?_)
  show (2048 * (4 + r.val / 2048 - 4) + r.val % 2048) % 16384 = r.val
  omega

/-- The score of a centroid: its key, or −∞ where the domain has no row. -/
theorem score_out (hx : IsFeat m c x) (r : Fin 16384) (k : Fin 8) :
    score (outRows m c (4 + r.val / 2048)) (cent m c) (norm2 m c) (ix2 k ⟨r.val % 2048, by omega⟩)
      = if 0 < cnt (doms m c) k then ((key x (doms m c) k r : ℝ) : EReal) else ⊥ := by
  rw [score_apply, norm2_apply hx]
  simp only [outRows_apply hx, cent_apply hx, ← EReal.coe_mul, ← coe_sum]
  split
  · rw [← EReal.coe_sub]; rfl
  · exact EReal.bot_sub _

/-- The centroid found for a row is its furthest one. -/
theorem found_out (hx : IsFeat m c x) (hd : InRange (doms m c)) (r : Fin 16384) (K : Fin 8) (hK : Far x (doms m c) r K)
    (w : FVec Ideal S8x2048 .f32) (ρ : Fin 2048) (hw : ∀ k : Fin 8, w (ix2 k ρ) = if 0 < cnt (doms m c) k then ((key x (doms m c) k r : ℝ) : EReal) else ⊥) :
    least (hits w (best w)) (ix2 0 ρ) = BitVec.ofNat 32 K := by
  refine found w ρ K (fun k => ?_) fun k hk => ?_
  · rw [hw, hw, if_pos hK.pos]
    split
    · rename_i hp
      refine EReal.coe_le_coe_iff.mpr (hK.le k ?_ hp)
      by_contra h7
      have : k.val = 7 := by omega
      rw [this, cnt_seven hd] at hp
      exact absurd hp (lt_irrefl 0)
    · exact bot_le
  · rw [hw, hw, if_pos hK.pos]
    split
    · rename_i hp
      exact (EReal.coe_lt_coe_iff.mpr (hK.first k hk hp)).ne
    · exact EReal.bot_ne_coe _

/-- The result of the kernel: every row mixed with its furthest centroid. -/
theorem out_apply (hx : IsFeat m c x) (hd : InRange (doms m c)) (r : Fin 16384) (q : Fin 512) (K : ℕ) (hK : Far x (doms m c) r K) :
    (dats m 0 c).arrAt 2 cfg0.N (ix2 r q) = ((mixed x (doms m c) K r q : ℝ) : EReal) := by
  have hlt := hK.lt
  have hf := found_out hx hd r ⟨K, by omega⟩ hK _ _ (score_out hx r)
  rw [final]
  unfold outBlk
  rw [pay13_eq]
  refine (mix_apply _ _ _ _ _ ⟨K, by omega⟩ hf).trans ?_
  rw [outRows_apply hx, cent3_apply hx, mixed_eq, EReal.coe_add, EReal.coe_mul, EReal.coe_mul]
end

end Cert.KernelIdeal.Hand

end
-- ==== Proof.RefRun.lean ====
/-
The run of the reference: its host operations in order, in three stages, and the contents each stage
leaves as a function of the arguments.
-/
module

public import proofs.«01_k».proof.Proof.Gen.ReferenceIdeal
public import Idealize.ShloMosaic.Lib.StableHlo.Run

@[expose] public section

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

/-- The contents of a buffer of a shape and an element type. -/
abbrev C (F : FTy → Type) (s : Shape) (e : EltTy) : Type := (⟨s, e⟩ : BufTy).Contents (Elt F)

variable {F : FTy → Type} [FloatOps F]

/-! ## What the stages compute -/

/-- How many rows each domain has. -/
def counts (d : C F S16384 .i32) : C F S7 .f32 :=
  Host.scatterAdd scatter_S7_S16384x1_S16384_n_0_0_1 (broadcastInDim S7 ![] bcast_S_S7 (constant S_ .f32 0x00000000#32))
    (broadcastInDim S16384x1 ![0] bcast_S16384_S16384x1_0 d) (broadcastInDim S16384 ![] bcast_S_S16384 (constant S_ .f32 0x3F800000#32))

/-- The sum of the rows of each domain. -/
def sums (x : C F S16384x512 .f32) (d : C F S16384 .i32) : C F S7x512 .f32 :=
  Host.scatterAdd scatter_S7x512_S16384x1_S16384x512_1_0_0_1 (broadcastInDim S7x512 ![] bcast_S_S7x512 (constant S_ .f32 0x00000000#32))
    (broadcastInDim S16384x1 ![0] bcast_S16384_S16384x1_0 d) x

/-- Which domains have rows. -/
def seen (d : C F S16384 .i32) : C F S7 .i1 := cmpf .ogt (counts d) (broadcastInDim S7 ![] bcast_S_S7 (constant S_ .f32 0x00000000#32))

/-- The centroids: sum by count, 0 where there is no row. -/
def cent (x : C F S16384x512 .f32) (d : C F S16384 .i32) : C F S7x512 .f32 :=
  select (broadcastInDim S7x512 ![0, 1] bcast_S7x1_S7x512_0_1 (broadcastInDim S7x1 ![0] bcast_S7_S7x1_0 (seen d)))
    (Host.divf (sums x d) (broadcastInDim S7x512 ![0, 1] bcast_S7x1_S7x512_0_1 (broadcastInDim S7x1 ![0] bcast_S7_S7x1_0
      (maximumf (broadcastInDim S7 ![] bcast_S_S7 (constant S_ .f32 0x3F800000#32)) (counts d)))))
    (broadcastInDim S7x512 ![] bcast_S_S7x512 (constant S_ .f32 0x00000000#32))

/-- The number of rows in all. -/
def total (d : C F S16384 .i32) : C F S_ .f32 := Host.reduceAdd (counts d) (constant S_ .f32 0x00000000#32) reducesTo_S7_S_d0 h_S_

/-- The squared distance of every row to every centroid, as norm plus norm less twice the product. -/
def sqdist (x : C F S16384x512 .f32) (g : C F S7x512 .f32) : C F S16384x7 .f32 :=
  subf
    (addf
      (broadcastInDim S16384x7 ![0, 1] bcast_S16384x1_S16384x7_0_1 (broadcastInDim S16384x1 ![0] bcast_S16384_S16384x1_0
        (Host.reduceAdd (mulf x x) (constant S_ .f32 0x00000000#32) reducesTo_S16384x512_S16384_d1 h_S_)))
      (broadcastInDim S16384x7 ![0, 1] bcast_S1x7_S16384x7_0_1 (broadcastInDim S1x7 ![1] bcast_S7_S1x7_1
        (Host.reduceAdd (mulf g g) (constant S_ .f32 0x00000000#32) reducesTo_S7x512_S7_d1 h_S_))))
    (mulf (broadcastInDim S16384x7 ![] bcast_S_S16384x7 (constant S_ .f32 0x40000000#32))
      (Host.dotGeneral dot_S16384x512_S512x7_S16384x7_1_0_0_1_n_n none x (transpose S512x7 [1, 0] g transposes_S7x512_S512x7_1_0)))

/-- The distance to every centroid, −1 for a domain without rows. -/
def dist (x : C F S16384x512 .f32) (g : C F S7x512 .f32) (s : C F S7 .i1) : C F S16384x7 .f32 :=
  select (broadcastInDim S16384x7 ![0, 1] bcast_S1x7_S16384x7_0_1 (broadcastInDim S1x7 ![1] bcast_S7_S1x7_1 s))
    (Host.sqrt (maximumf (broadcastInDim S16384x7 ![] bcast_S_S16384x7 (constant S_ .f32 0x00000000#32)) (sqdist x g)))
    (broadcastInDim S16384x7 ![] bcast_S_S16384x7 (constant S_ .f32 0xBF800000#32))

/-- The first domain at the largest distance. -/
def furthest (w : C F S16384x7 .f32) : C F S16384 .i32 := fun j =>
  (Host.argReduce reducer_argmax_f32_i32 w (iotaInDim S16384x7 32 1) (constant S_ .f32 0xFF800000#32) (constantI S_ 32 0#32)
    reducesTo_S16384x7_S16384_d1 h_S_ j).2

/-- An index as a row of one, a negative one counted from the end. -/
def wrapped (i : C F S16384 .i32) : C F S16384x1 .i32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 7#32))) i)

/-- Whether an index is one of the seven domains. -/
def inRange (w : C F S16384x1 .i32) : C F S16384 .i1 :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1 (broadcastInDim S1x1 ![1] bcast_S1_S1x1_1 (constantI S1 32 6#32)))))
    (constantI S_ 1 1#1) reducesTo_S16384x1_S16384_d1 h_S_

/-- The centroid of every row's index. -/
def taken (g : C F S7x512 .f32) (i : C F S16384 .i32) : C F S16384x512 .f32 :=
  select (broadcastInDim S16384x512 ![0] bcast_S16384_S16384x512_0 (inRange (F := F) (wrapped (F := F) i)))
    (Host.gather gather_S7x512_S16384x1_S16384x512_1_0_n_n_0_1_1512 g (wrapped (F := F) i))
    (broadcastInDim S16384x512 ![] bcast_S_S16384x512 (constant S_ .f32 0x7FC00000#32))

/-- The rows moved towards the centroid taken, if there is a row at all. -/
def mixed (x h : C F S16384x512 .f32) (n : C F S_ .f32) : C F S16384x512 .f32 :=
  select (broadcastInDim S16384x512 ![] bcast_S_S16384x512 (cmpf .ogt n (constant S_ .f32 0x00000000#32)))
    (addf x (mulf (broadcastInDim S16384x512 ![] bcast_S_S16384x512 (constant S_ .f32 0x3E99999A#32)) (subf h x))) x

/-- The result as a function of the arguments. -/
def result (x : C F S16384x512 .f32) (d : C F S16384 .i32) : C F S16384x512 .f32 :=
  mixed x (taken (cent x d) (furthest (dist x (cent x d) (seen d)))) (total d)

/-! ## The operations -/

/-- The counts, the sums and the centroids. -/
abbrev ops1 : List (HloOp τ sig (Elt F)) :=
  [ nullary main_cst (constant S_ .f32 0x3F800000#32),
    unary main_cst main_v0 (broadcastInDim S16384 ![] bcast_S_S16384 : C F S_ .f32 → C F S16384 .f32),
    nullary main_cst_0 (constant S_ .f32 0x00000000#32),
    unary main_cst_0 main_v1 (broadcastInDim S7 ![] bcast_S_S7 : C F S_ .f32 → C F S7 .f32),
    unary main_arg1 main_v2 (broadcastInDim S16384x1 ![0] bcast_S16384_S16384x1_0 : C F S16384 .i32 → C F S16384x1 .i32),
    ternary main_v1 main_v2 main_v0 main_v3 ((fun x i u => Host.scatterAdd scatter_S7_S16384x1_S16384_n_0_0_1 x i u) : C F S7 .f32 → C F S16384x1 .i32 → C F S16384 .f32 → C F S7 .f32),
    nullary main_cst_1 (constant S_ .f32 0x00000000#32),
    unary main_cst_1 main_v4 (broadcastInDim S7x512 ![] bcast_S_S7x512 : C F S_ .f32 → C F S7x512 .f32),
    unary main_arg1 main_v5 (broadcastInDim S16384x1 ![0] bcast_S16384_S16384x1_0 : C F S16384 .i32 → C F S16384x1 .i32),
    ternary main_v4 main_v5 main_arg0 main_v6 ((fun x i u => Host.scatterAdd scatter_S7x512_S16384x1_S16384x512_1_0_0_1 x i u) : C F S7x512 .f32 → C F S16384x1 .i32 → C F S16384x512 .f32 → C F S7x512 .f32),
    nullary main_cst_2 (constant S_ .f32 0x00000000#32),
    unary main_cst_2 main_v7 (broadcastInDim S7 ![] bcast_S_S7 : C F S_ .f32 → C F S7 .f32),
    binary main_v3 main_v7 main_v8 (cmpf .ogt : C F S7 .f32 → C F S7 .f32 → C F S7 .i1),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S7, .f32⟩) main_call0_v1) (broadcastInDim S7 ![] bcast_S_S7),
    TRef.binary (TRef.of (T := ⟨S7, .f32⟩) main_call0_v1) (TRef.of (T := ⟨S7, .f32⟩) main_v3) (TRef.of (T := ⟨S7, .f32⟩) main_v9) maximumf,
    unary main_v9 main_v10 (broadcastInDim S7x1 ![0] bcast_S7_S7x1_0 : C F S7 .f32 → C F S7x1 .f32),
    unary main_v10 main_v11 (broadcastInDim S7x512 ![0, 1] bcast_S7x1_S7x512_0_1 : C F S7x1 .f32 → C F S7x512 .f32),
    binary main_v6 main_v11 main_v12 (Host.divf : C F S7x512 .f32 → C F S7x512 .f32 → C F S7x512 .f32),
    unary main_v8 main_v13 (broadcastInDim S7x1 ![0] bcast_S7_S7x1_0 : C F S7 .i1 → C F S7x1 .i1),
    nullary main_cst_4 (constant S_ .f32 0x00000000#32),
    TRef.unary (TRef.of (T := ⟨S_, .f32⟩) main_cst_4) (TRef.of (T := ⟨S_, .f32⟩) main_call1_v0) id,
    TRef.unary (TRef.of (T := ⟨S7x1, .i1⟩) main_v13) (TRef.of (T := ⟨S7x512, .i1⟩) main_call1_v1) (broadcastInDim S7x512 ![0, 1] bcast_S7x1_S7x512_0_1),
    TRef.unary (TRef.of (T := ⟨S_, .f32⟩) main_call1_v0) (TRef.of (T := ⟨S7x512, .f32⟩) main_call1_v2) (broadcastInDim S7x512 ![] bcast_S_S7x512),
    TRef.ternary (TRef.of (T := ⟨S7x512, .i1⟩) main_call1_v1) (TRef.of (T := ⟨S7x512, .f32⟩) main_v12) (TRef.of (T := ⟨S7x512, .f32⟩) main_call1_v2) (TRef.of (T := ⟨S7x512, .f32⟩) main_v14) select ]

/-- The number of rows and the distances. -/
abbrev ops2 : List (HloOp τ sig (Elt F)) :=
  [ nullary main_cst_5 (constant S_ .f32 0x00000000#32),
    binary main_v3 main_cst_5 main_v15 ((fun x v => Host.reduceAdd x v reducesTo_S7_S_d0 h_S_) : C F S7 .f32 → C F S_ .f32 → C F S_ .f32),
    binary main_arg0 main_arg0 main_v16 (mulf : C F S16384x512 .f32 → C F S16384x512 .f32 → C F S16384x512 .f32),
    nullary main_cst_6 (constant S_ .f32 0x00000000#32),
    binary main_v16 main_cst_6 main_v17 ((fun x v => Host.reduceAdd x v reducesTo_S16384x512_S16384_d1 h_S_) : C F S16384x512 .f32 → C F S_ .f32 → C F S16384 .f32),
    unary main_v17 main_v18 (broadcastInDim S16384x1 ![0] bcast_S16384_S16384x1_0 : C F S16384 .f32 → C F S16384x1 .f32),
    binary main_v14 main_v14 main_v19 (mulf : C F S7x512 .f32 → C F S7x512 .f32 → C F S7x512 .f32),
    nullary main_cst_7 (constant S_ .f32 0x00000000#32),
    binary main_v19 main_cst_7 main_v20 ((fun x v => Host.reduceAdd x v reducesTo_S7x512_S7_d1 h_S_) : C F S7x512 .f32 → C F S_ .f32 → C F S7 .f32),
    unary main_v20 main_v21 (broadcastInDim S1x7 ![1] bcast_S7_S1x7_1 : C F S7 .f32 → C F S1x7 .f32),
    unary main_v18 main_v22 (broadcastInDim S16384x7 ![0, 1] bcast_S16384x1_S16384x7_0_1 : C F S16384x1 .f32 → C F S16384x7 .f32),
    unary main_v21 main_v23 (broadcastInDim S16384x7 ![0, 1] bcast_S1x7_S16384x7_0_1 : C F S1x7 .f32 → C F S16384x7 .f32),
    binary main_v22 main_v23 main_v24 (addf : C F S16384x7 .f32 → C F S16384x7 .f32 → C F S16384x7 .f32),
    unary main_v14 main_v25 ((transpose S512x7 [1, 0] · transposes_S7x512_S512x7_1_0) : C F S7x512 .f32 → C F S512x7 .f32),
    binary main_arg0 main_v25 main_v26 ((fun l r => Host.dotGeneral dot_S16384x512_S512x7_S16384x7_1_0_0_1_n_n none l r) : C F S16384x512 .f32 → C F S512x7 .f32 → C F S16384x7 .f32),
    nullary main_cst_8 (constant S_ .f32 0x40000000#32),
    unary main_cst_8 main_v27 (broadcastInDim S16384x7 ![] bcast_S_S16384x7 : C F S_ .f32 → C F S16384x7 .f32),
    binary main_v27 main_v26 main_v28 (mulf : C F S16384x7 .f32 → C F S16384x7 .f32 → C F S16384x7 .f32),
    binary main_v24 main_v28 main_v29 (subf : C F S16384x7 .f32 → C F S16384x7 .f32 → C F S16384x7 .f32),
    nullary main_cst_9 (constant S_ .f32 0x00000000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S16384x7, .f32⟩) main_call2_v1) (broadcastInDim S16384x7 ![] bcast_S_S16384x7),
    TRef.binary (TRef.of (T := ⟨S16384x7, .f32⟩) main_call2_v1) (TRef.of (T := ⟨S16384x7, .f32⟩) main_v29) (TRef.of (T := ⟨S16384x7, .f32⟩) main_v30) maximumf,
    unary main_v30 main_v31 (Host.sqrt : C F S16384x7 .f32 → C F S16384x7 .f32),
    unary main_v8 main_v32 (broadcastInDim S1x7 ![1] bcast_S7_S1x7_1 : C F S7 .i1 → C F S1x7 .i1),
    nullary main_cst_10 (constant S_ .f32 0xBF800000#32),
    TRef.unary (TRef.of (T := ⟨S_, .f32⟩) main_cst_10) (TRef.of (T := ⟨S_, .f32⟩) main_call3_v0) id,
    TRef.unary (TRef.of (T := ⟨S1x7, .i1⟩) main_v32) (TRef.of (T := ⟨S16384x7, .i1⟩) main_call3_v1) (broadcastInDim S16384x7 ![0, 1] bcast_S1x7_S16384x7_0_1),
    TRef.unary (TRef.of (T := ⟨S_, .f32⟩) main_call3_v0) (TRef.of (T := ⟨S16384x7, .f32⟩) main_call3_v2) (broadcastInDim S16384x7 ![] bcast_S_S16384x7),
    TRef.ternary (TRef.of (T := ⟨S16384x7, .i1⟩) main_call3_v1) (TRef.of (T := ⟨S16384x7, .f32⟩) main_v31) (TRef.of (T := ⟨S16384x7, .f32⟩) main_call3_v2) (TRef.of (T := ⟨S16384x7, .f32⟩) main_v33) select ]

/-- The furthest centroid, and the mix. -/
abbrev ops3 : List (HloOp τ sig (Elt F)) :=
  [ TRef.nullary (TRef.of (T := ⟨S16384x7, .i32⟩) main_call4_v0) (iotaInDim S16384x7 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S16384x7, .f32⟩) main_v33) (TRef.of (T := ⟨S16384x7, .i32⟩) main_call4_v0) (TRef.of (T := ⟨S_, .f32⟩) main_call4_cst) (TRef.of (T := ⟨S_, .i32⟩) main_call4_c) (TRef.of (T := ⟨S16384, .f32⟩) main_call4_v1_0) (fun x y u v j => (Host.argReduce reducer_argmax_f32_i32 x y u v reducesTo_S16384x7_S16384_d1 h_S_ j).1),
    TRef.quaternary (TRef.of (T := ⟨S16384x7, .f32⟩) main_v33) (TRef.of (T := ⟨S16384x7, .i32⟩) main_call4_v0) (TRef.of (T := ⟨S_, .f32⟩) main_call4_cst) (TRef.of (T := ⟨S_, .i32⟩) main_call4_c) (TRef.of (T := ⟨S16384, .i32⟩) main_v34) (fun x y u v j => (Host.argReduce reducer_argmax_f32_i32 x y u v reducesTo_S16384x7_S16384_d1 h_S_ j).2),
    TRef.nullary (TRef.of (T := ⟨S_, .i32⟩) main_call5_c) (constantI S_ 32 0#32),
    TRef.unary (TRef.of (T := ⟨S_, .i32⟩) main_call5_c) (TRef.of (T := ⟨S16384, .i32⟩) main_call5_v0) (broadcastInDim S16384 ![] bcast_S_S16384),
    TRef.binary (TRef.of (T := ⟨S16384, .i32⟩) main_v34) (TRef.of (T := ⟨S16384, .i32⟩) main_call5_v0) (TRef.of (T := ⟨S16384, .i1⟩) main_call5_v1) (cmpi .slt),
    TRef.nullary (TRef.of (T := ⟨S_, .i32⟩) main_call5_c_0) (constantI S_ 32 7#32),
    TRef.unary (TRef.of (T := ⟨S_, .i32⟩) main_call5_c_0) (TRef.of (T := ⟨S16384, .i32⟩) main_call5_v2) (broadcastInDim S16384 ![] bcast_S_S16384),
    TRef.binary (TRef.of (T := ⟨S16384, .i32⟩) main_v34) (TRef.of (T := ⟨S16384, .i32⟩) main_call5_v2) (TRef.of (T := ⟨S16384, .i32⟩) main_call5_v3) addi,
    TRef.ternary (TRef.of (T := ⟨S16384, .i1⟩) main_call5_v1) (TRef.of (T := ⟨S16384, .i32⟩) main_call5_v3) (TRef.of (T := ⟨S16384, .i32⟩) main_v34) (TRef.of (T := ⟨S16384, .i32⟩) main_call5_v4) select,
    TRef.unary (TRef.of (T := ⟨S16384, .i32⟩) main_call5_v4) (TRef.of (T := ⟨S16384x1, .i32⟩) main_call5_v5) (broadcastInDim S16384x1 ![0] bcast_S16384_S16384x1_0),
    TRef.nullary (TRef.of (T := ⟨S1, .i32⟩) main_call5_c_1) (constantI S1 32 6#32),
    TRef.nullary (TRef.of (T := ⟨S_, .i32⟩) main_call5_c_2) (constantI S_ 32 0#32),
    TRef.unary (TRef.of (T := ⟨S_, .i32⟩) main_call5_c_2) (TRef.of (T := ⟨S16384x1, .i32⟩) main_call5_v6) (broadcastInDim S16384x1 ![] bcast_S_S16384x1),
    TRef.binary (TRef.of (T := ⟨S16384x1, .i32⟩) main_call5_v5) (TRef.of (T := ⟨S16384x1, .i32⟩) main_call5_v6) (TRef.of (T := ⟨S16384x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S16384x1, .i32⟩) main_call5_v9) (broadcastInDim S16384x1 ![0, 1] bcast_S1x1_S16384x1_0_1),
    TRef.binary (TRef.of (T := ⟨S16384x1, .i32⟩) main_call5_v5) (TRef.of (T := ⟨S16384x1, .i32⟩) main_call5_v9) (TRef.of (T := ⟨S16384x1, .i1⟩) main_call5_v10) (cmpi .sle),
    TRef.binary (TRef.of (T := ⟨S16384x1, .i1⟩) main_call5_v7) (TRef.of (T := ⟨S16384x1, .i1⟩) main_call5_v10) (TRef.of (T := ⟨S16384x1, .i1⟩) main_call5_v11) andi,
    TRef.nullary (TRef.of (T := ⟨S_, .i1⟩) main_call5_c_3) (constantI S_ 1 1#1),
    TRef.binary (TRef.of (T := ⟨S16384x1, .i1⟩) main_call5_v11) (TRef.of (T := ⟨S_, .i1⟩) main_call5_c_3) (TRef.of (T := ⟨S16384, .i1⟩) main_call5_v12) (fun x v => Host.reduce IntOp.andi x v reducesTo_S16384x1_S16384_d1 h_S_),
    TRef.binary (TRef.of (T := ⟨S7x512, .f32⟩) main_v14) (TRef.of (T := ⟨S16384x1, .i32⟩) main_call5_v5) (TRef.of (T := ⟨S16384x512, .f32⟩) main_call5_v13) (fun x i => Host.gather gather_S7x512_S16384x1_S16384x512_1_0_n_n_0_1_1512 x i),
    TRef.unary (TRef.of (T := ⟨S16384, .i1⟩) main_call5_v12) (TRef.of (T := ⟨S16384x512, .i1⟩) main_call5_v14) (broadcastInDim S16384x512 ![0] bcast_S16384_S16384x512_0),
    TRef.nullary (TRef.of (T := ⟨S_, .f32⟩) main_call5_cst) (constant S_ .f32 0x7FC00000#32),
    TRef.unary (TRef.of (T := ⟨S_, .f32⟩) main_call5_cst) (TRef.of (T := ⟨S16384x512, .f32⟩) main_call5_v15) (broadcastInDim S16384x512 ![] bcast_S_S16384x512),
    TRef.ternary (TRef.of (T := ⟨S16384x512, .i1⟩) main_call5_v14) (TRef.of (T := ⟨S16384x512, .f32⟩) main_call5_v13) (TRef.of (T := ⟨S16384x512, .f32⟩) main_call5_v15) (TRef.of (T := ⟨S16384x512, .f32⟩) main_v35) select,
    binary main_v35 main_arg0 main_v36 (subf : C F S16384x512 .f32 → C F S16384x512 .f32 → C F S16384x512 .f32),
    nullary main_cst_11 (constant S_ .f32 0x3E99999A#32),
    unary main_cst_11 main_v37 (broadcastInDim S16384x512 ![] bcast_S_S16384x512 : C F S_ .f32 → C F S16384x512 .f32),
    binary main_v37 main_v36 main_v38 (mulf : C F S16384x512 .f32 → C F S16384x512 .f32 → C F S16384x512 .f32),
    binary main_arg0 main_v38 main_v39 (addf : C F S16384x512 .f32 → C F S16384x512 .f32 → C F S16384x512 .f32),
    nullary main_cst_12 (constant S_ .f32 0x00000000#32),
    binary main_v15 main_cst_12 main_v40 (cmpf .ogt : C F S_ .f32 → C F S_ .f32 → C F S_ .i1),
    TRef.ternary (TRef.of (T := ⟨S_, .i1⟩) main_v40) (TRef.of (T := ⟨S16384x512, .f32⟩) main_v39) (TRef.of (T := ⟨S16384x512, .f32⟩) main_arg0) (TRef.of (T := ⟨S16384x512, .f32⟩) main_v41) (fun p a b => select (broadcastInDim S16384x512 ![] bcast_S_S16384x512 p) a b) ]

/-- All the operations, in order. -/
abbrev ops : List (HloOp τ sig (Elt F)) := ops1 ++ (ops2 ++ ops3)

set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., unary_bufs_sub .., ternary_bufs_sub ..⟩
theorem ops2_sub : (ops2 : List (HloOp τ sig (Elt F))).Forall fun op => op.bufs ⊆ tcRefs τ sig :=
  ⟨nullary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., nullary_bufs_sub .., unary_bufs_sub .., unary_bufs_sub .., unary_bufs_sub .., ternary_bufs_sub ..⟩
theorem ops3_sub : (ops3 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., binary_bufs_sub .., binary_bufs_sub .., nullary_bufs_sub .., binary_bufs_sub .., ternary_bufs_sub ..⟩

theorem ops_sub : (ops : List (HloOp τ sig (Elt F))).Forall fun op => op.bufs ⊆ tcRefs τ sig :=
  List.forall_append.mpr ⟨ops1_sub, List.forall_append.mpr ⟨ops2_sub, ops3_sub⟩⟩

theorem after_app (l₁ l₂ : List (HloOp τ sig (Elt F))) (V : Valuation τ sig (Elt F)) : after (l₁ ++ l₂) V = after l₂ (after l₁ V) := by
  induction l₁ generalizing V with
  | nil => rfl
  | cons a l ih => simp only [List.cons_append, after_cons, ih]

/-! ## What each stage leaves -/

section
variable (V : Valuation τ sig (Elt F))

set_option maxHeartbeats 4000000

theorem ops1_arg0 : after ops1 V main_arg0 = V main_arg0 := by
  simp only [ops1, TRef.binary, TRef.nullary, TRef.ternary, TRef.unary, TRef.toBuf, TRef.ofBuf, cast_eq]; after_results_simp
theorem ops1_arg1 : after ops1 V main_arg1 = V main_arg1 := by
  simp only [ops1, TRef.binary, TRef.nullary, TRef.ternary, TRef.unary, TRef.toBuf, TRef.ofBuf, cast_eq]; after_results_simp
theorem ops1_v3 : after ops1 V main_v3 = counts (V main_arg1) := by
  simp only [ops1, TRef.binary, TRef.nullary, TRef.ternary, TRef.unary, TRef.toBuf, TRef.ofBuf, cast_eq]; after_results_simp; rfl
theorem ops1_v8 : after ops1 V main_v8 = seen (V main_arg1) := by
  simp only [ops1, TRef.binary, TRef.nullary, TRef.ternary, TRef.unary, TRef.toBuf, TRef.ofBuf, cast_eq]; after_results_simp; rfl
theorem ops1_v14 : after ops1 V main_v14 = cent (V main_arg0) (V main_arg1) := by
  simp only [ops1, TRef.binary, TRef.nullary, TRef.ternary, TRef.unary, TRef.toBuf, TRef.ofBuf, cast_eq]; after_results_simp; rfl

theorem ops2_arg0 : after ops2 V main_arg0 = V main_arg0 := by
  simp only [ops2, TRef.binary, TRef.nullary, TRef.ternary, TRef.unary, TRef.toBuf, TRef.ofBuf, cast_eq]; after_results_simp
theorem ops2_arg1 : after ops2 V main_arg1 = V main_arg1 := by
  simp only [ops2, TRef.binary, TRef.nullary, TRef.ternary, TRef.unary, TRef.toBuf, TRef.ofBuf, cast_eq]; after_results_simp
theorem ops2_v14 : after ops2 V main_v14 = V main_v14 := by
  simp only [ops2, TRef.binary, TRef.nullary, TRef.ternary, TRef.unary, TRef.toBuf, TRef.ofBuf, cast_eq]; after_results_simp
theorem ops2_v15 : after ops2 V main_v15 = Host.reduceAdd (V main_v3) (constant S_ .f32 0x00000000#32) reducesTo_S7_S_d0 h_S_ := by
  simp only [ops2, TRef.binary, TRef.nullary, TRef.ternary, TRef.unary, TRef.toBuf, TRef.ofBuf, cast_eq]; after_results_simp
theorem ops2_v33 : after ops2 V main_v33 = dist (V main_arg0) (V main_v14) (V main_v8) := by
  simp only [ops2, TRef.binary, TRef.nullary, TRef.ternary, TRef.unary, TRef.toBuf, TRef.ofBuf, cast_eq]; after_results_simp; rfl

theorem ops3_arg0 : after ops3 V main_arg0 = V main_arg0 := by
  simp only [ops3, TRef.binary, TRef.nullary, TRef.ternary, TRef.unary, TRef.quaternary, TRef.toBuf, TRef.ofBuf, cast_eq]; after_results_simp
theorem ops3_arg1 : after ops3 V main_arg1 = V main_arg1 := by
  simp only [ops3, TRef.binary, TRef.nullary, TRef.ternary, TRef.unary, TRef.quaternary, TRef.toBuf, TRef.ofBuf, cast_eq]; after_results_simp
theorem ops3_v41 : after ops3 V main_v41 = mixed (V main_arg0) (taken (V main_v14) (furthest (V main_v33))) (V main_v15) := by
  simp only [ops3, TRef.binary, TRef.nullary, TRef.ternary, TRef.unary, TRef.quaternary, TRef.toBuf, TRef.ofBuf, cast_eq]; after_results_simp; rfl
end

/-- Every run of the reference ends with the result at `result` of the arguments, the arguments unchanged, every counter at zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v41).trans (by rw [after_app, after_app, ops3_v41, ops2_arg0, ops2_v14, ops2_v15, ops2_v33, ops1_arg0, ops1_v14, ops1_v8, ops1_v3]; rfl),
     (h c main_arg0).trans (by rw [after_app, after_app, ops3_arg0, ops2_arg0, ops1_arg0]),
     (h c main_arg1).trans (by rw [after_app, after_app, ops3_arg1, ops2_arg1, ops1_arg1])⟩)
    (run_seq scopedRefs_eq scopedSems_eq defs main (fun _ => ops) main_eq (fun _ => ops_sub) m ρ)

end Cert.ReferenceIdeal.Hand

end
-- ==== Proof.RefSums.lean ====
/-
The reference's counts, sums and centroids, in the terms of the specification: where the updates of
its two scatters land, and the sums they leave.
-/
module

public import proofs.«01_k».proof.Proof.RefRun
public import proofs.«01_k».proof.Proof.Spec
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen Idealize.ShloMosaic Idealize.ShloMosaic.TcCoe Cert.DomainMix

/-! ## Where an update lands -/

/-- A word read signed is one of 0..6 exactly when it is that number's word. -/
theorem toInt_eq (a : BitVec 32) (k : Fin 7) : a.toInt = (k.val : Int) ↔ a = BitVec.ofNat 32 k := by
  have h : ∀ k : Fin 7, (BitVec.ofNat 32 k.val).toInt = (k.val : Int) := by decide
  rw [← h k]
  exact BitVec.toInt_inj

/-- A count's update lands at the domain of its row. -/
theorem lands1 (i : IVec S16384x1 32) (r : Fin 16384) (k : Fin 7) :
    scatter_S7_S16384x1_S16384_n_0_0_1.resultIdx? (ix1 r) i = some (ix1 k) ↔ i (ix2 r 0) = BitVec.ofNat 32 k := by
  rw [← toInt_eq]
  refine (Routing.resultIdx?_eq_some _ _ _ _).trans ?_
  have hs : scatter_S7_S16384x1_S16384_n_0_0_1.start (ix1 r) i 0 = (i (ix2 r 0)).toInt := by
    unfold ScatterDims.start
    refine (dif_pos (show 0 ∈ scatter_S7_S16384x1_S16384_n_0_0_1.scatterDimsToOperandDims from List.mem_singleton.mpr rfl)).trans ?_
    refine congrArg (fun z => (i z).toInt) (funext fun b => ?_)
    match b with
    | 0 => rfl
    | 1 => rfl
  have hw : scatter_S7_S16384x1_S16384_n_0_0_1.window (ix1 r) 0 = 0 := dif_neg (by decide)
  constructor
  · intro h
    have := h 0
    rw [hs, hw] at this
    simpa using this
  · intro h a
    match a with
    | 0 => rw [hs, hw, h]; simp

/-- A sum's update lands at the domain of its row, in its own column. -/
theorem lands2 (i : IVec S16384x1 32) (r : Fin 16384) (c q : Fin 512) (k : Fin 7) :
    scatter_S7x512_S16384x1_S16384x512_1_0_0_1.resultIdx? (ix2 r c) i = some (ix2 k q) ↔ i (ix2 r 0) = BitVec.ofNat 32 k ∧ c = q := by
  rw [← toInt_eq]
  refine (Routing.resultIdx?_eq_some _ _ _ _).trans ?_
  have hs : scatter_S7x512_S16384x1_S16384x512_1_0_0_1.start (ix2 r c) i 0 = (i (ix2 r 0)).toInt := by
    unfold ScatterDims.start
    refine (dif_pos (show 0 ∈ scatter_S7x512_S16384x1_S16384x512_1_0_0_1.scatterDimsToOperandDims from List.mem_singleton.mpr rfl)).trans ?_
    refine congrArg (fun z => (i z).toInt) (funext fun b => ?_)
    match b with
    | 0 => rfl
    | 1 => rfl
  have hs1 : scatter_S7x512_S16384x1_S16384x512_1_0_0_1.start (ix2 r c) i 1 = 0 := dif_neg (by decide)
  have hw : scatter_S7x512_S16384x1_S16384x512_1_0_0_1.window (ix2 r c) 0 = 0 := dif_neg (by decide)
  have hw1 : scatter_S7x512_S16384x1_S16384x512_1_0_0_1.window (ix2 r c) 1 = c.val := dif_pos (by decide)
  constructor
  · intro h
    have h0 := h 0
    have h1 := h 1
    rw [hs, hw] at h0
    rw [hs1, hw1] at h1
    exact ⟨by simpa using h0, Fin.ext (by simpa using h1)⟩
  · rintro ⟨h, rfl⟩ a
    match a with
    | 0 => rw [hs, hw, h]; simp
    | 1 => rw [hs1, hw1]; simp

/-- A scatter's sum at an index: what was there plus the updates that land there. -/
theorem scatterAdd_apply {s si su : Shape} (d : ScatterDims s si su) (x : FVec Ideal s .f32) (i : IVec si 32) (u : FVec Ideal su .f32) (y : s.Idx) :
    Host.scatterAdd d x i u y = x y + ∑ j, if d.resultIdx? j i = some y then u j else (0 : EReal) := by
  rw [← Finset.sum_filter]; rfl

/-! ## Counts, sums and centroids -/

section
variable {x : C Ideal S16384x512 .f32} {d : C Ideal S16384 .i32} {xr : Feat}

/-- The domains as words. -/
abbrev doms (d : C Ideal S16384 .i32) : Doms := fun r => d (ix1 r)

theorem counts_apply (k : Fin 7) : counts d (ix1 k) = ((cnt (doms d) k : ℝ) : EReal) := by
  unfold counts
  rw [scatterAdd_apply, sum_idx1, ← sum_cnt]
  simp only [lands1]
  pointwise

theorem sums_apply (hx : ∀ r q, x (ix2 r q) = ((xr r q : ℝ) : EReal)) (k : Fin 7) (q : Fin 512) :
    sums x d (ix2 k q) = ((sm xr (doms d) k q : ℝ) : EReal) := by
  unfold sums
  rw [scatterAdd_apply, sum_idx2, ← sum_sm]
  simp only [lands2]
  have h0 : broadcastInDim S7x512 ![] bcast_S_S7x512 (constant (F := Ideal) S_ .f32 0x00000000#32) (ix2 k q) = (0 : EReal) := by pointwise
  rw [h0, zero_add]
  refine Finset.sum_congr rfl fun r _ => ?_
  have hd : broadcastInDim S16384x1 ![0] bcast_S16384_S16384x1_0 d (ix2 r 0) = d (ix1 r) := by pointwise
  rw [hd]
  by_cases e : d (ix1 r) = BitVec.ofNat 32 k
  · simp only [e, true_and, Finset.sum_ite_eq', Finset.mem_univ, if_true, one_mul, hx]
  · simp only [e, false_and, if_false, Finset.sum_const_zero, zero_mul]

theorem cent_apply (hx : ∀ r q, x (ix2 r q) = ((xr r q : ℝ) : EReal)) (k : Fin 7) (q : Fin 512) :
    cent x d (ix2 k q) = ((ctr xr (doms d) k q : ℝ) : EReal) := by
  rw [← div_ctr, max_comm, ← counts_apply, ← sums_apply hx]
  pointwise [cent, seen]

/-- With a row at all, the total is above zero. -/
theorem total_pos (k : Fin 7) (h : 0 < cnt (doms d) k) : 0 < total d ix0 := by
  have e : total d ix0 = ∑ k, counts d (ix1 k) := by pointwise [total]
  rw [e]
  simp only [counts_apply, ← coe_sum]
  rw [← EReal.coe_zero, EReal.coe_lt_coe_iff]
  exact Finset.sum_pos' (fun _ _ => Nat.cast_nonneg _) ⟨k, Finset.mem_univ k, Nat.cast_pos.mpr h⟩
end

end Cert.ReferenceIdeal.Hand

end
-- ==== Proof.RefArgmax.lean ====
/-
The reference's arg-max along a row of distances: the first of the largest.
-/
module

public import proofs.«01_k».proof.Proof.RefRun
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe

/-- The arg-max step keeps the left pair when its value is larger, or equal with the smaller index. -/
theorem step_eq (a b : Ideal .f32 × BitVec 32) :
    reducer_argmax_f32_i32 (F := Ideal) a b = if b.1 < a.1 then a else if a.1 = b.1 ∧ a.2.slt b.2 then a else b := by
  obtain ⟨a1, a2⟩ := a
  obtain ⟨b1, b2⟩ := b
  simp only [reducer_argmax_f32_i32, Ideal.cmpf_def, Ideal.cmp, IntOp.cmpi, IntOp.ori, IntOp.andi, Scalar.select]
  by_cases h : b1 < a1
  · simp [h]
    exact fun hc => absurd (by generalize BitVec.ofBool _ = z; revert z; decide) hc
  · by_cases e : a1 = b1
    · subst e
      by_cases l : a2.slt b2 <;> simp [l]
    · simp [h, e]

/-- A pair beats another: a larger value, or an equal one with a smaller index. -/
def Beats (t p : Ideal .f32 × BitVec 32) : Prop := p.1 < t.1 ∨ (t.1 = p.1 ∧ t.2.slt p.2)

theorem step_left {t p : Ideal .f32 × BitVec 32} (h : Beats t p) : reducer_argmax_f32_i32 (F := Ideal) t p = t := by
  rw [step_eq]
  rcases h with h | h
  · rw [if_pos h]
  · rw [if_neg (by rw [h.1]; exact lt_irrefl _), if_pos h]

theorem slt_asymm {a b : BitVec 32} (h : a.slt b) : ¬ b.slt a := by
  simp only [BitVec.slt, decide_eq_true_eq] at h ⊢
  omega

theorem step_right {t p : Ideal .f32 × BitVec 32} (h : Beats t p) : reducer_argmax_f32_i32 (F := Ideal) p t = t := by
  rw [step_eq]
  rcases h with h | h
  · rw [if_neg h.not_gt, if_neg fun e => h.ne e.1]
  · rw [if_neg (by rw [h.1]; exact lt_irrefl _), if_neg fun e => slt_asymm h.2 e.2]

theorem step_self (t : Ideal .f32 × BitVec 32) : reducer_argmax_f32_i32 (F := Ideal) t t = t := by
  rw [step_eq]; split <;> [rfl; split <;> rfl]

theorem step_or (a b : Ideal .f32 × BitVec 32) :
    reducer_argmax_f32_i32 (F := Ideal) a b = a ∨ reducer_argmax_f32_i32 (F := Ideal) a b = b := by
  rw [step_eq]; split <;> [exact Or.inl rfl; split <;> [exact Or.inl rfl; exact Or.inr rfl]]

/-- A pair that beats every other one met is what the fold leaves. -/
theorem fold_beats (t : Ideal .f32 × BitVec 32) (l : List (Ideal .f32 × BitVec 32)) (hl : ∀ p ∈ l, p = t ∨ Beats t p) :
    ∀ a, (a = t ∨ (Beats t a ∧ t ∈ l)) → l.foldl reducer_argmax_f32_i32 a = t := by
  induction l with
  | nil =>
    intro a h
    rcases h with h | h
    · exact h
    · exact absurd h.2 List.not_mem_nil
  | cons p l ih =>
    intro a h
    have hp := hl p List.mem_cons_self
    refine ih (fun q hq => hl q (List.mem_cons_of_mem p hq)) _ ?_
    rcases h with rfl | ⟨ha, hm⟩
    · left
      rcases hp with rfl | hp
      · exact step_self _
      · exact step_left hp
    · rcases hp with rfl | hp
      · left; exact step_right ha
      · rcases List.mem_cons.mp hm with rfl | hm
        · left; exact step_right ha
        · right
          refine ⟨?_, hm⟩
          rcases step_or a p with e | e <;> rw [e] <;> assumption

/-- The pairs along row `r`. -/
theorem mem_row (w : C Ideal S16384x7 .f32) (r : Fin 16384) (p : Ideal .f32 × BitVec 32) :
    p ∈ Host.argReduceFiber w (iotaInDim S16384x7 32 1) reducesTo_S16384x7_S16384_d1 (ix1 r)
      ↔ ∃ k : Fin 7, p = (w (ix2 r k), BitVec.ofNat 32 k) := by
  unfold Host.argReduceFiber
  rw [List.mem_map]
  constructor
  · rintro ⟨n, hn, rfl⟩
    rw [List.mem_filter] at hn
    have hd := of_decide_eq_true hn.2
    generalize S16384x7.rowMajor.symm n = y at hd ⊢
    have h0 : y 0 = r := congrFun hd 0
    have hy : y = ix2 r (y 1) := by rw [← h0]; exact eq_ix2 y
    rw [hy]
    exact ⟨y 1, rfl⟩
  · rintro ⟨k, rfl⟩
    refine ⟨S16384x7.rowMajor (ix2 r k), List.mem_filter.mpr ⟨List.mem_finRange _, decide_eq_true ?_⟩, ?_⟩
    · rw [Equiv.symm_apply_apply]
      funext b
      match b with
      | 0 => rfl
    · rw [Equiv.symm_apply_apply]; rfl

/-- The index found in row `r` is the first of the largest, if that is above −∞. -/
theorem furthest_apply (w : C Ideal S16384x7 .f32) (r : Fin 16384) (K : Fin 7) (hb : (⊥ : EReal) < w (ix2 r K))
    (hle : ∀ k : Fin 7, w (ix2 r k) ≤ w (ix2 r K)) (hlt : ∀ k : Fin 7, k.val < K.val → w (ix2 r k) < w (ix2 r K)) :
    furthest w (ix1 r) = BitVec.ofNat 32 K := by
  unfold furthest
  rw [Ideal.argReduce_eq_reduce2, Host.reduce2_eq_foldl_fiber]
  refine congrArg Prod.snd (fold_beats (w (ix2 r K), BitVec.ofNat 32 K) _ (fun p hp => ?_) _ (Or.inr ⟨Or.inl ?_, (mem_row w r _).mpr ⟨K, rfl⟩⟩))
  · obtain ⟨k, rfl⟩ := (mem_row w r p).mp hp
    by_cases e : k = K
    · left; rw [e]
    · right
      rcases (hle k).lt_or_eq with h | h
      · exact Or.inl h
      · have hk : K.val < k.val := by
          by_contra hk
          exact (hlt k (lt_of_le_of_ne (not_lt.mp hk) fun e' => e (Fin.ext e'))).ne h
        have hs : ∀ a b : Fin 7, a.val < b.val → (BitVec.ofNat 32 a.val).slt (BitVec.ofNat 32 b.val) = true := by decide
        exact Or.inr ⟨h.symm, hs K k hk⟩
  · have hbot : Ideal.ofBits .f32 0xFF800000#32 = ⊥ := by simp [Ideal.ofBits, Ideal.ieee, -EReal.coe_mul]
    show Ideal.ofBits .f32 0xFF800000#32 < _
    rw [hbot]; exact hb

end Cert.ReferenceIdeal.Hand

end
-- ==== Proof.RefValue.lean ====
/-
The result of the reference at an index: the row moved towards its furthest centroid.
-/
module

public import proofs.«01_k».proof.Proof.RefSums
public import proofs.«01_k».proof.Proof.RefArgmax
public import Idealize.ShloMosaic.Lib.Routing.Ops

@[expose] public section

set_option maxRecDepth 16384

noncomputable section

namespace Cert.ReferenceIdeal.Hand

open Cert.ReferenceIdeal Cert.ReferenceIdeal.Gen Idealize.ShloMosaic Idealize.ShloMosaic.TcCoe Cert.DomainMix

/-! ## The distances -/

section
variable {x : C Ideal S16384x512 .f32} {d : C Ideal S16384 .i32} {xr : Feat}

/-- The distance of a row to a centroid, as the specification has it: −1 for a domain without rows. -/
def far (xr : Feat) (e : Doms) (k : ℕ) (r : Fin 16384) : ℝ :=
  if 0 < cnt e k then Real.sqrt (∑ c, xr r c * xr r c + key xr e k r) else -1

theorem dist_apply (hx : ∀ r q, x (ix2 r q) = ((xr r q : ℝ) : EReal)) (r : Fin 16384) (k : Fin 7) :
    dist x (cent x d) (seen d) (ix2 r k) = ((far xr (doms d) k r : ℝ) : EReal) := by
  have e : dist x (cent x d) (seen d) (ix2 r k) = if 0 < counts d (ix1 k) then
      Ideal.sqrt (max 0 (∑ c, x (ix2 r c) * x (ix2 r c) + ∑ c, cent x d (ix2 k c) * cent x d (ix2 k c)
        - Ideal.ofBits .f32 0x40000000#32 * ∑ c, x (ix2 r c) * cent x d (ix2 k c)))
      else Ideal.ofBits .f32 0xBF800000#32 := by
    pointwise [dist, sqdist, seen]
  rw [e, counts_apply, bits_two, bits_neg_one]
  unfold far
  by_cases h : 0 < cnt (doms d) k
  · have hn := norm_add_key (x := xr) (d := doms d) k r
    have hk : ∑ c, xr r c * xr r c + ∑ c, ctr xr (doms d) k c * ctr xr (doms d) k c - 2 * ∑ c, xr r c * ctr xr (doms d) k c
        = ∑ c, xr r c * xr r c + key xr (doms d) k r := by
      unfold key
      simp only [mul_comm (xr r _) (ctr xr (doms d) k _)]
      ring
    rw [if_pos ((zero_lt_cnt k).mpr h), if_pos h]
    simp only [hx, cent_apply hx, ← EReal.coe_mul, ← coe_sum, ← EReal.coe_add, ← EReal.coe_sub]
    rw [hk, max_eq_right (by rw [← EReal.coe_zero]; exact EReal.coe_le_coe_iff.mpr hn), Ideal.sqrt_coe, if_neg (not_lt.mpr hn)]
  · rw [if_neg (mt (zero_lt_cnt k).mp h), if_neg h]

theorem far_le {e : Doms} {r : Fin 16384} {K : ℕ} (hK : Far xr e r K) (k : ℕ) (hk : k < 7) : far xr e k r ≤ far xr e K r := by
  unfold far
  rw [if_pos hK.pos]
  split
  · rename_i h
    exact Real.sqrt_le_sqrt (by have := hK.le k hk h; linarith)
  · linarith [Real.sqrt_nonneg (∑ c, xr r c * xr r c + key xr e K r)]

theorem far_lt {e : Doms} {r : Fin 16384} {K : ℕ} (hK : Far xr e r K) (k : ℕ) (hk : k < K) : far xr e k r < far xr e K r := by
  unfold far
  rw [if_pos hK.pos]
  split
  · rename_i h
    exact Real.sqrt_lt_sqrt (norm_add_key _ k r) (by have := hK.first k hk h; linarith)
  · linarith [Real.sqrt_nonneg (∑ c, xr r c * xr r c + key xr e K r)]

/-- The reference finds the furthest centroid. -/
theorem found (hx : ∀ r q, x (ix2 r q) = ((xr r q : ℝ) : EReal)) (r : Fin 16384) (K : Fin 7) (hK : Far xr (doms d) r K) :
    furthest (dist x (cent x d) (seen d)) (ix1 r) = BitVec.ofNat 32 K := by
  refine furthest_apply _ r K ?_ (fun k => ?_) fun k hk => ?_
  · rw [dist_apply hx]; exact EReal.bot_lt_coe _
  · rw [dist_apply hx, dist_apply hx]; exact EReal.coe_le_coe_iff.mpr (far_le hK k k.isLt)
  · rw [dist_apply hx, dist_apply hx]; exact EReal.coe_lt_coe_iff.mpr (far_lt hK k hk)

/-! ## The centroid taken -/

theorem wrapped_apply (i : C Ideal S16384 .i32) (r : Fin 16384) (K : Fin 7) (h : i (ix1 r) = BitVec.ofNat 32 K) :
    wrapped (F := Ideal) i (ix2 r 0) = BitVec.ofNat 32 K := by
  have hw : ∀ K : Fin 7, Scalar.select (IntOp.cmpi .slt (BitVec.ofNat 32 K.val) 0#32) (IntOp.addi (BitVec.ofNat 32 K.val) 7#32) (BitVec.ofNat 32 K.val)
      = BitVec.ofNat 32 K.val := by decide
  rw [← hw K, ← h]
  pointwise [wrapped]

theorem inRange_apply (w : C Ideal S16384x1 .i32) (r : Fin 16384) (K : Fin 7) (h : w (ix2 r 0) = BitVec.ofNat 32 K) :
    inRange (F := Ideal) w (ix1 r) = 1#1 := by
  have hw : ∀ K : Fin 7, IntOp.andi (IntOp.andi (IntOp.cmpi .sge (BitVec.ofNat 32 K.val) 0#32) (IntOp.cmpi .sle (BitVec.ofNat 32 K.val) 6#32)) 1#1
      = 1#1 := by decide
  pointwise [inRange]
  rw [Finset.univ_unique, Finset.fold_singleton]
  show IntOp.andi (IntOp.andi (IntOp.cmpi .sge (w (ix2 r 0)) 0#32) (IntOp.cmpi .sle (w (ix2 r 0)) 6#32)) 1#1 = 1#1
  rw [h]
  exact hw K

theorem taken_apply (g : C Ideal S7x512 .f32) (i : C Ideal S16384 .i32) (r : Fin 16384) (q : Fin 512) (K : Fin 7)
    (h : i (ix1 r) = BitVec.ofNat 32 K) : taken g i (ix2 r q) = g (ix2 K q) := by
  have hw := wrapped_apply i r K h
  have hg : Host.gather gather_S7x512_S16384x1_S16384x512_1_0_n_n_0_1_1512 g (wrapped (F := Ideal) i) (ix2 r q) = g (ix2 K q) := by
    rw [ix2_eq_valueIdx] at hw
    rw [ix2_eq_valueIdx, ix2_eq_valueIdx]
    exact Routing.gather_row _ rfl rfl rfl rfl rfl g _ r q K hw (by decide)
  pointwise [taken]
  rw [inRange_apply _ r K hw, hg]
  rfl

/-! ## The result -/

/-- The result of the reference: every row mixed with its furthest centroid. -/
theorem result_apply (hx : ∀ r q, x (ix2 r q) = ((xr r q : ℝ) : EReal)) (r : Fin 16384) (q : Fin 512) (K : ℕ) (hK : Far xr (doms d) r K) :
    result x d (ix2 r q) = ((DomainMix.mixed xr (doms d) K r q : ℝ) : EReal) := by
  have ht := taken_apply (cent x d) _ r q ⟨K, hK.lt⟩ (found hx r ⟨K, hK.lt⟩ hK)
  unfold result
  have e : ∀ (h : C Ideal S16384x512 .f32) (n : C Ideal S_ .f32), mixed x h n (ix2 r q)
      = if 0 < n ix0 then x (ix2 r q) + Ideal.ofBits .f32 0x3E99999A#32 * (h (ix2 r q) - x (ix2 r q)) else x (ix2 r q) := fun h n => by
    pointwise [mixed]
  rw [e, if_pos (total_pos ⟨K, hK.lt⟩ hK.pos), ht, cent_apply hx, hx, bits_c3, ← EReal.coe_sub, ← EReal.coe_mul, ← EReal.coe_add]
  rfl
end

end Cert.ReferenceIdeal.Hand

end
-- ==== Proof.Equation.lean ====
/-
The equation: on features that are finite and domains that are in range, the array the kernel leaves
is the reference's result.
-/
module

public import proofs.«01_k».proof.Pre_drawn
public import proofs.«01_k».proof.Proof.Centroid
public import proofs.«01_k».proof.Proof.RefValue

@[expose] public section

set_option maxRecDepth 16384

noncomputable section

namespace Cert.DomainMix

open Idealize.ShloMosaic Idealize.ShloMosaic.TcCoe

/-! ## What the precondition says -/

/-- An extended real whose absolute value is below +∞ is a real. -/
theorem finite_of_abs (a : EReal) (h : Ideal.cmp .olt (max a (-a)) (Ideal.ofBits .f32 0x7F800000#32) = 1#1) :
    a = ((a.toReal : ℝ) : EReal) := by
  have hb : ∀ p : Bool, BitVec.ofBool p = 1#1 → p = true := by decide
  have ht : Ideal.ofBits .f32 0x7F800000#32 = ⊤ := by simp [Ideal.ofBits, Ideal.ieee, -EReal.coe_mul]
  have hlt : max a (-a) < ⊤ := by
    have := of_decide_eq_true (hb _ h)
    rwa [ht] at this
  refine (EReal.coe_toReal ?_ ?_).symm
  · rintro rfl
    exact absurd (lt_of_le_of_lt (le_max_left _ _) hlt) (lt_irrefl _)
  · rintro rfl
    exact absurd (lt_of_le_of_lt (le_max_right _ _) hlt) (by simp)

/-- A word that is at least 0 and below 7, read signed, is one of 0..6. -/
theorem range_of_cmp (a : BitVec 32) (h : IntOp.andi (IntOp.cmpi .sge a 0#32) (IntOp.cmpi .slt a 7#32) = 1#1) : a.toNat < 7 := by
  have hb : ∀ p q : Bool, IntOp.andi (BitVec.ofBool p) (BitVec.ofBool q) = 1#1 → p = true ∧ q = true := by decide
  obtain ⟨h1, h2⟩ := hb _ _ h
  have e1 : (0 : Int) ≤ a.toInt := by simpa [BitVec.sle] using h1
  have e2 : a.toInt < 7 := by simpa [BitVec.slt] using h2
  rw [BitVec.toInt_eq_toNat_cond] at e1 e2
  have := a.isLt
  split at e1 <;> omega

variable [Cert.Pre_drawn.Facts] (x : FVec Ideal Cert.Pre_drawn.S16384x512 .f32) (d : IVec Cert.Pre_drawn.S16384 32)

theorem finite_of_pre (h : (Cert.Pre_drawn.fn (F := Ideal) x d).1 = fun _ => 1#1) (r : Fin 16384) (q : Fin 512) :
    x (ix2 r q) = (((x (ix2 r q)).toReal : ℝ) : EReal) :=
  finite_of_abs _ (congrFun h (ix2 r q))

theorem range_of_pre (h : (Cert.Pre_drawn.fn (F := Ideal) x d).2 = fun _ => 1#1) : InRange fun r => d (ix1 r) :=
  fun r => range_of_cmp _ (congrFun h (ix1 r))

/-! ## The equation -/

/-- Where the precondition holds, the kernel's array is the reference's result of the same arguments. -/
theorem equation (m : (ℓ : Loc Cert.KernelIdeal.nD Cert.KernelIdeal.τ Cert.KernelIdeal.sig) → Buf (Elt Ideal) ℓ) (c : Dev Cert.KernelIdeal.nD)
    (h1 : (Cert.Pre_drawn.fn (F := Ideal) (Cert.KernelIdeal.Hand.arg0 m c) (Cert.KernelIdeal.Hand.arg1 m c)).1 = fun _ => 1#1)
    (h2 : (Cert.Pre_drawn.fn (F := Ideal) (Cert.KernelIdeal.Hand.arg0 m c) (Cert.KernelIdeal.Hand.arg1 m c)).2 = fun _ => 1#1) :
    Cert.ReferenceIdeal.Hand.result (Cert.KernelIdeal.Hand.arg0 m c) (Cert.KernelIdeal.Hand.arg1 m c)
      = (Cert.KernelIdeal.Hand.dats m 0 c).arrAt 2 Cert.KernelIdeal.cfg0.N := by
  have hd : InRange (Cert.KernelIdeal.Hand.doms m c) := range_of_pre _ _ h2
  have hx := finite_of_pre _ _ h1
  funext y
  obtain ⟨r, q, rfl⟩ : ∃ (r : Fin 16384) (q : Fin 512), y = ix2 r q := ⟨y 0, y 1, eq_ix2 y⟩
  obtain ⟨K, hK⟩ := exists_far (x := fun r q => (Cert.KernelIdeal.Hand.arg0 m c (ix2 r q)).toReal) hd r
  exact (Cert.ReferenceIdeal.Hand.result_apply hx r q K hK).trans (Cert.KernelIdeal.Hand.out_apply hx hd r q K hK).symm

end Cert.DomainMix

end
-- ==== Proof.lean ====
/-
The proof of the certificate's claim: the frames, the named constant, and the equality of the kernel
and the reference over the extended reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Run
public import proofs.«01_k».proof.Proof.KernelFrame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The kernel terminates, and leaves its arguments unchanged and every counter at zero. -/
theorem frame_kernel : Cert.quiescent_Kernel := Cert.Kernel.Hand.frame

/-- So does the ideal kernel. -/
theorem frame_ideal : Cert.quiescent_KernelIdeal := fun m ρ _ => Cert.KernelIdeal.Hand.frame m ρ
theorem frame_ideal_drawn : Cert.quiescent_KernelIdeal_pre_drawn := fun m ρ _ => Cert.KernelIdeal.Hand.frame m ρ

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Hand.run m ρ)
theorem frame_reference_drawn : Cert.quiescent_ReferenceIdeal_pre_drawn := fun m ρ _ => frame_reference m ρ trivial

/-- The mask's constant is −∞ in the ideal kernel. -/
theorem preserves : Cert.preserves_Kernel_KernelIdeal :=
  IdealRules.named_const.statement Cert.KernelIdeal.κ "mask" .f32 0xF149F2CA#32 ⊥ rfl

/-- The ideal kernel and the reference end with equal results, on finite features and domains in 0..6. -/
theorem algebraic : Cert.algebraic_KernelIdeal_ReferenceIdeal_pre_drawn := by
  intro m ρ m' ρ' hpre hagree
  refine ⟨fun c => (Cert.KernelIdeal.Hand.dats m 0 c).arrAt 2 Cert.KernelIdeal.cfg0.N, ?_, ?_⟩
  · exact (θ_run Cert.KernelIdeal.defs _ _).mono (fun r h c => ⟨Pipeline.FramePost.out_eq h.2.1 c 2, h.1.1 c⟩)
      (θ_run_and (Cert.KernelIdeal.Hand.frame m ρ) (Cert.KernelIdeal.Hand.run_main m ρ))
  · refine (θ_run Cert.ReferenceIdeal.defs _ _).mono (fun r h c => ⟨(h c).1.trans ?_, (h c).2⟩) (Cert.ReferenceIdeal.Hand.run m' ρ')
    rw [(hagree c).1, (hagree c).2]
    exact Cert.DomainMix.equation m c (hpre c).1 (hpre c).2

/-- Everything the certificate claims. -/
theorem claim : Cert.Claim :=
  ⟨Cert.Kernel.Gen.facts, Cert.KernelIdeal.Gen.facts, Cert.ReferenceIdeal.Gen.facts, Cert.Pre_drawn.Gen.facts,
    frame_kernel, frame_ideal, frame_ideal_drawn, frame_reference, frame_reference_drawn, preserves, algebraic⟩

end Cert.Proof

end
